-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_logits_finite : Cert.Pre_logits_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ preserves_Kernel_KernelIdeal
    ∧ algebraic_KernelIdeal_ReferenceIdeal_pre_logits_finite (hKernelIdeal := hKernelIdeal) (hReferenceIdeal := hReferenceIdeal) (hPre_logits_finite := hPre_logits_finite)
-- ==== Pre_logits_finite.lean ====
abbrev S32x1000000 : Shape := ⟨2, ![32, 1000000]⟩
abbrev S_ : Shape := ⟨0, ![]⟩

class Facts : Prop where
  bcast_S_S32x1000000 : S_.BroadcastsInDim S32x1000000 (![] : Fin 0 → Fin S32x1000000.rank)

variable [Facts]

def fn {F : FTy → Type} [FloatOps F] (main_arg0 : FVec F S32x1000000 .f32) : IVec S32x1000000 1 :=
  let main_v0 : FVec F S32x1000000 .f32 := Host.absf main_arg0
  let main_cst : FVec F S_ .f32 := constant S_ .f32 0x7F800000#32
  let main_v1 : FVec F S32x1000000 .f32 := broadcastInDim S32x1000000 ![] bcast_S_S32x1000000 main_cst
  let main_v2 : IVec S32x1000000 1 := cmpf .olt main_v0 main_v1
  main_v2
-- ==== Kernel.lean ====
abbrev S32x1000000 : Shape := ⟨2, ![32, 1000000]⟩
abbrev S32x1 : Shape := ⟨2, ![32, 1]⟩
abbrev S32 : Shape := ⟨1, ![32]⟩
abbrev S32x16384 : Shape := ⟨2, ![32, 16384]⟩
abbrev S32x128 : Shape := ⟨2, ![32, 128]⟩
abbrev S32x256 : Shape := ⟨2, ![32, 256]⟩

abbrev nBuf : Space → Nat
  | .hbm => 7
  | .vmem => 9
  | .smem => 0
  | _ => 0

abbrev bufTy : (tb : Table) → Fin (tcTables nBuf tb) → BufTy
  | .hbm, ⟨0, _⟩ => ⟨S32x1000000, .f32⟩
  | .hbm, ⟨1, _⟩ => ⟨S32x1, .i32⟩
  | .hbm, ⟨2, _⟩ => ⟨S32x1, .f32⟩
  | .hbm, ⟨3, _⟩ => ⟨S32x1, .f32⟩
  | .hbm, ⟨4, _⟩ => ⟨S32, .i32⟩
  | .hbm, ⟨5, _⟩ => ⟨S32, .f32⟩
  | .hbm, ⟨6, _⟩ => ⟨S32, .f32⟩
  | .local _ .vmem, ⟨0, _⟩ => ⟨S32x16384, .f32⟩
  | .local _ .vmem, ⟨1, _⟩ => ⟨S32x16384, .f32⟩
  | .local _ .vmem, ⟨2, _⟩ => ⟨S32x1, .i32⟩
  | .local _ .vmem, ⟨3, _⟩ => ⟨S32x1, .f32⟩
  | .local _ .vmem, ⟨4, _⟩ => ⟨S32x1, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_v0_0 : Ref sig .tc := ⟨.hbm, 1, rfl⟩
abbrev main_call0_v0_1 : Ref sig .tc := ⟨.hbm, 2, rfl⟩
abbrev main_call0_v0_2 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![62], ![false]⟩

def k0_cond2 (i : grid0.Coords) : BitVec 1 :=
  let arg0 : BitVec 32 := BitVec.ofNat 32 (i 0).val
  let c61_i32 : BitVec 32 := 61#32
  let v16 : BitVec 1 := Scalar.cmpi .slt arg0 c61_i32
  let v17 : BitVec 32 := Scalar.extui v16
  let c0_i32_8 : BitVec 32 := 0#32
  let v18 : BitVec 1 := Scalar.cmpi .ne v17 c0_i32_8
  v18

@[reducible] def k0_t1_loop : Scf.Loop 32 :=
  let c0_i32_11 : BitVec 32 := 0#32
  let c8_i32 : BitVec 32 := 8#32
  let v22 : BitVec 32 := Scalar.addi c0_i32_11 c8_i32
  let c1_i32_12 : BitVec 32 := 1#32
  ⟨c0_i32_11, v22, c1_i32_12⟩
def k0_off1 (k0_t1 : Fin k0_t1_loop.trips) (c0_i32_23 : BitVec 32) : Fin 2 → Nat :=
  let c0_24 : Index := 0#32
  let c8_i32_22 : BitVec 32 := 8#32
  let c0_i32_11 : BitVec 32 := 0#32
  let c1_i32_12 : BitVec 32 := 1#32
  let arg9 : BitVec 32 := Scf.iv c0_i32_11 c1_i32_12 k0_t1
  let v36 : BitVec 32 := Scalar.muli c8_i32_22 arg9
  let v37 : BitVec 32 := Scalar.addi v36 c0_i32_23
  let c256_i32 : BitVec 32 := 256#32
  let v38 : BitVec 32 := Scalar.muli v37 c256_i32
  let v39 : Index := Scalar.indexCast v38
  ![0, v39.toNat]
def k0_cond3 (i : grid0.Coords) : BitVec 1 :=
  let arg0 : BitVec 32 := BitVec.ofNat 32 (i 0).val
  let c61_i32_9 : BitVec 32 := 61#32
  let v19 : BitVec 1 := Scalar.cmpi .eq arg0 c61_i32_9
  let v20 : BitVec 32 := Scalar.extui v19
  let c0_i32_10 : BitVec 32 := 0#32
  let v21 : BitVec 1 := Scalar.cmpi .ne v20 c0_i32_10
  v21

@[reducible] def k0_t2_loop : Scf.Loop 32 :=
  let c0_i32_11 : BitVec 32 := 0#32
  let c8_i32 : BitVec 32 := 8#32
  let v22 : BitVec 32 := Scalar.addi c0_i32_11 c8_i32
  let c1_i32_12 : BitVec 32 := 1#32
  ⟨c0_i32_11, v22, c1_i32_12⟩
def k0_off2 (k0_t2 : Fin k0_t2_loop.trips) (c0_i32_71 : BitVec 32) : Fin 2 → Nat :=
  let c0_72 : Index := 0#32
  let c8_i32_70 : BitVec 32 := 8#32
  let c0_i32_11 : BitVec 32 := 0#32
  let c1_i32_12 : BitVec 32 := 1#32
  let arg9 : BitVec 32 := Scf.iv c0_i32_11 c1_i32_12 k0_t2
  let v235 : BitVec 32 := Scalar.muli c8_i32_70 arg9
  let v236 : BitVec 32 := Scalar.addi v235 c0_i32_71
  let c256_i32 : BitVec 32 := 256#32
  let v237 : BitVec 32 := Scalar.muli v236 c256_i32
  let v238 : Index := Scalar.indexCast v237
  ![0, v238.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S32x1000000 : Shape := ⟨2, ![32, 1000000]⟩
abbrev S_ : Shape := ⟨0, ![]⟩
abbrev S1 : Shape := ⟨1, ![1]⟩
abbrev S2 : Shape := ⟨1, ![2]⟩
abbrev S1x1 : Shape := ⟨2, ![1, 1]⟩
abbrev S32 : Shape := ⟨1, ![32]⟩
abbrev S32x1 : Shape := ⟨2, ![32, 1]⟩
abbrev S32x1x1 : Shape := ⟨3, ![32, 1, 1]⟩
abbrev S1x1x1 : Shape := ⟨3, ![1, 1, 1]⟩

abbrev nBuf : Space → Nat
  | .hbm => 335
  | .vmem => 0
  | .smem => 0
  | _ => 0

abbrev hbmTy0_0 (i : Nat) : BufTy := match i % 128 with
  | 0 => ⟨S32x1000000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S32x1000000, .i64⟩
  | 22 => ⟨S32x1000000, .i64⟩
  | 23 => ⟨S_, .i64⟩
  | 24 => ⟨S32x1000000, .i64⟩
  | 25 => ⟨S32x1000000, .i64⟩
  | 26 => ⟨S_, .i64⟩
  | 27 => ⟨S32x1000000, .i64⟩
  | 28 => ⟨S32x1000000, .i64⟩
  | 29 => ⟨S32x1000000, .i64⟩
  | 30 => ⟨S_, .i64⟩
  | 31 => ⟨S32x1000000, .i64⟩
  | 32 => ⟨S32x1000000, .i64⟩
  | 33 => ⟨S32x1000000, .i32⟩
  | 34 => ⟨S32x1000000, .i32⟩
  | 35 => ⟨S_, .i32⟩
  | 36 => ⟨S_, .i32⟩
  | 37 => ⟨S_, .i32⟩
  | 38 => ⟨S32x1000000, .i32⟩
  | 39 => ⟨S32x1000000, .i32⟩
  | 40 => ⟨S32x1000000, .i32⟩
  | 41 => ⟨S32x1000000, .i32⟩
  | 42 => ⟨S32x1000000, .i32⟩
  | 43 => ⟨S_, .i32⟩
  | 44 => ⟨S32x1000000, .i32⟩
  | 45 => ⟨S32x1000000, .i32⟩
  | 46 => ⟨S_, .i32⟩
  | 47 => ⟨S32x1000000, .i32⟩
  | 48 => ⟨S32x1000000, .i32⟩
  | 49 => ⟨S32x1000000, .i32⟩
  | 50 => ⟨S32x1000000, .i32⟩
  | 51 => ⟨S32x1000000, .i32⟩
  | 52 => ⟨S_, .i32⟩
  | 53 => ⟨S32x1000000, .i32⟩
  | 54 => ⟨S32x1000000, .i32⟩
  | 55 => ⟨S_, .i32⟩
  | 56 => ⟨S32x1000000, .i32⟩
  | 57 => ⟨S32x1000000, .i32⟩
  | 58 => ⟨S32x1000000, .i32⟩
  | 59 => ⟨S32x1000000, .i32⟩
  | 60 => ⟨S32x1000000, .i32⟩
  | 61 => ⟨S_, .i32⟩
  | 62 => ⟨S32x1000000, .i32⟩
  | 63 => ⟨S32x1000000, .i32⟩
  | 64 => ⟨S_, .i32⟩
  | 65 => ⟨S32x1000000, .i32⟩
  | 66 => ⟨S32x1000000, .i32⟩
  | 67 => ⟨S32x1000000, .i32⟩
  | 68 => ⟨S32x1000000, .i32⟩
  | 69 => ⟨S32x1000000, .i32⟩
  | 70 => ⟨S_, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S32x1000000, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S32x1000000, .i32⟩
  | 86 => ⟨S_, .i32⟩
  | 87 => ⟨S32x1000000, .i32⟩
  | 88 => ⟨S32x1000000, .i32⟩
  | 89 => ⟨S_, .i32⟩
  | 90 => ⟨S32x1000000, .i32⟩
  | 91 => ⟨S32x1000000, .i32⟩
  | 92 => ⟨S32x1000000, .i32⟩
  | 93 => ⟨S32x1000000, .i32⟩
  | 94 => ⟨S32x1000000, .i32⟩
  | 95 => ⟨S_, .i32⟩
  | 96 => ⟨S32x1000000, .i32⟩
  | 97 => ⟨S32x1000000, .i32⟩
  | 98 => ⟨S_, .i32⟩
  | 99 => ⟨S32x1000000, .i32⟩
  | 100 => ⟨S32x1000000, .i32⟩
  | 101 => ⟨S32x1000000, .i32⟩
  | 102 => ⟨S32x1000000, .i32⟩
  | 103 => ⟨S32x1000000, .i32⟩
  | 104 => ⟨S_, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S32x1000000, .i32⟩
  | 111 => ⟨S32x1000000, .i32⟩
  | 112 => ⟨S32x1000000, .i32⟩
  | 113 => ⟨S_, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S32x1000000, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S_, .i32⟩
  | 126 => ⟨S32x1000000, .i32⟩
  | 127 => ⟨S32x1000000, .i32⟩
  | _ => ⟨S32x1000000, .f32⟩

abbrev hbmTy0_1 (i : Nat) : BufTy := match i % 128 with
  | 0 => ⟨S32x1000000, .i32⟩
  | 1 => ⟨S_, .i32⟩
  | 2 => ⟨S32x1000000, .i32⟩
  | 3 => ⟨S32x1000000, .i32⟩
  | 4 => ⟨S_, .i32⟩
  | 5 => ⟨S32x1000000, .i32⟩
  | 6 => ⟨S32x1000000, .i32⟩
  | 7 => ⟨S32x1000000, .i32⟩
  | 8 => ⟨S32x1000000, .i32⟩
  | 9 => ⟨S32x1000000, .i32⟩
  | 10 => ⟨S_, .i32⟩
  | 11 => ⟨S32x1000000, .i32⟩
  | 12 => ⟨S32x1000000, .i32⟩
  | 13 => ⟨S_, .i32⟩
  | 14 => ⟨S32x1000000, .i32⟩
  | 15 => ⟨S32x1000000, .i32⟩
  | 16 => ⟨S32x1000000, .i32⟩
  | 17 => ⟨S32x1000000, .i32⟩
  | 18 => ⟨S32x1000000, .i32⟩
  | 19 => ⟨S_, .i32⟩
  | 20 => ⟨S32x1000000, .i32⟩
  | 21 => ⟨S32x1000000, .i32⟩
  | 22 => ⟨S_, .i32⟩
  | 23 => ⟨S32x1000000, .i32⟩
  | 24 => ⟨S32x1000000, .i32⟩
  | 25 => ⟨S32x1000000, .i32⟩
  | 26 => ⟨S32x1000000, .i32⟩
  | 27 => ⟨S32x1000000, .i32⟩
  | 28 => ⟨S_, .i32⟩
  | 29 => ⟨S32x1000000, .i32⟩
  | 30 => ⟨S32x1000000, .i32⟩
  | 31 => ⟨S_, .i32⟩
  | 32 => ⟨S32x1000000, .i32⟩
  | 33 => ⟨S32x1000000, .i32⟩
  | 34 => ⟨S32x1000000, .i32⟩
  | 35 => ⟨S32x1000000, .i32⟩
  | 36 => ⟨S32x1000000, .i32⟩
  | 37 => ⟨S32x1000000, .i32⟩
  | 38 => ⟨S32x1000000, .i32⟩
  | 39 => ⟨S32x1000000, .i32⟩
  | 40 => ⟨S_, .i32⟩
  | 41 => ⟨S32x1000000, .i32⟩
  | 42 => ⟨S32x1000000, .i32⟩
  | 43 => ⟨S32x1000000, .i32⟩
  | 44 => ⟨S_, .i32⟩
  | 45 => ⟨S32x1000000, .i32⟩
  | 46 => ⟨S32x1000000, .i32⟩
  | 47 => ⟨S_, .i32⟩
  | 48 => ⟨S32x1000000, .i32⟩
  | 49 => ⟨S32x1000000, .i32⟩
  | 50 => ⟨S32x1000000, .i32⟩
  | 51 => ⟨S32x1000000, .i32⟩
  | 52 => ⟨S32x1000000, .i32⟩
  | 53 => ⟨S_, .i32⟩
  | 54 => ⟨S32x1000000, .i32⟩
  | 55 => ⟨S32x1000000, .i32⟩
  | 56 => ⟨S_, .i32⟩
  | 57 => ⟨S32x1000000, .i32⟩
  | 58 => ⟨S32x1000000, .i32⟩
  | 59 => ⟨S32x1000000, .i32⟩
  | 60 => ⟨S32x1000000, .i32⟩
  | 61 => ⟨S32x1000000, .i32⟩
  | 62 => ⟨S_, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S32x1000000, .i32⟩
  | 69 => ⟨S32x1000000, .i32⟩
  | 70 => ⟨S32x1000000, .i32⟩
  | 71 => ⟨S_, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S32x1000000, .i32⟩
  | 83 => ⟨S_, .i32⟩
  | 84 => ⟨S32x1000000, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S_, .i32⟩
  | 91 => ⟨S32x1000000, .i32⟩
  | 92 => ⟨S32x1000000, .i32⟩
  | 93 => ⟨S32x1000000, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S32x1000000, .i32⟩
  | 103 => ⟨S32x1000000, .i32⟩
  | 104 => ⟨S32x1000000, .i32⟩
  | 105 => ⟨S_, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S32x1000000, .i32⟩
  | 112 => ⟨S32x1000000, .i32⟩
  | 113 => ⟨S32x1000000, .i32⟩
  | 114 => ⟨S_, .i32⟩
  | 115 => ⟨S32x1000000, .i32⟩
  | 116 => ⟨S32x1000000, .i32⟩
  | 117 => ⟨S_, .i32⟩
  | 118 => ⟨S32x1000000, .i32⟩
  | 119 => ⟨S32x1000000, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S32x1000000, .i32⟩
  | 126 => ⟨S_, .i32⟩
  | 127 => ⟨S32x1000000, .i32⟩
  | _ => ⟨S32x1000000, .f32⟩

abbrev hbmTy0_2 (i : Nat) : BufTy := match i % 128 with
  | 0 => ⟨S32x1000000, .i32⟩
  | 1 => ⟨S32x1000000, .i32⟩
  | 2 => ⟨S_, .i32⟩
  | 3 => ⟨S32x1000000, .i32⟩
  | 4 => ⟨S32x1000000, .i32⟩
  | 5 => ⟨S_, .i32⟩
  | 6 => ⟨S32x1000000, .i32⟩
  | 7 => ⟨S32x1000000, .i32⟩
  | 8 => ⟨S32x1000000, .f32⟩
  | 9 => ⟨S_, .f32⟩
  | 10 => ⟨S32x1000000, .f32⟩
  | 11 => ⟨S32x1000000, .f32⟩
  | 12 => ⟨S1x1, .f32⟩
  | 13 => ⟨S32x1000000, .f32⟩
  | 14 => ⟨S32x1000000, .f32⟩
  | 15 => ⟨S32x1000000, .f32⟩
  | 16 => ⟨S32x1000000, .f32⟩
  | 17 => ⟨S32x1000000, .f32⟩
  | 18 => ⟨S32x1000000, .f32⟩
  | 19 => ⟨S_, .f32⟩
  | 20 => ⟨S32x1000000, .f32⟩
  | 21 => ⟨S32x1000000, .f32⟩
  | 22 => ⟨S32x1000000, .f32⟩
  | 23 => ⟨S32x1000000, .f32⟩
  | 24 => ⟨S32x1000000, .f32⟩
  | 25 => ⟨S32x1000000, .f32⟩
  | 26 => ⟨S_, .f32⟩
  | 27 => ⟨S32x1000000, .f32⟩
  | 28 => ⟨S32x1000000, .f32⟩
  | 29 => ⟨S32x1000000, .f32⟩
  | 30 => ⟨S32x1000000, .i32⟩
  | 31 => ⟨S_, .f32⟩
  | 32 => ⟨S_, .i32⟩
  | 33 => ⟨S32, .f32⟩
  | 34 => ⟨S32, .i32⟩
  | 35 => ⟨S_, .f32⟩
  | 36 => ⟨S32, .f32⟩
  | 37 => ⟨S_, .f32⟩
  | 38 => ⟨S32, .f32⟩
  | 39 => ⟨S32, .f32⟩
  | 40 => ⟨S32x1, .f32⟩
  | 41 => ⟨S32x1000000, .f32⟩
  | 42 => ⟨S32x1000000, .f32⟩
  | 43 => ⟨S32x1000000, .f32⟩
  | 44 => ⟨S_, .f32⟩
  | 45 => ⟨S32, .f32⟩
  | 46 => ⟨S32x1, .f32⟩
  | 47 => ⟨S32x1, .f32⟩
  | 48 => ⟨S32x1000000, .f32⟩
  | 49 => ⟨S32x1000000, .f32⟩
  | 50 => ⟨S32x1, .i32⟩
  | 51 => ⟨S_, .i32⟩
  | 52 => ⟨S32x1, .i32⟩
  | 53 => ⟨S32x1, .i1⟩
  | 54 => ⟨S_, .i32⟩
  | 55 => ⟨S32x1, .i32⟩
  | 56 => ⟨S32x1, .i32⟩
  | 57 => ⟨S32x1, .i32⟩
  | 58 => ⟨S32x1x1, .i32⟩
  | 59 => ⟨S1, .i32⟩
  | 60 => ⟨S_, .i32⟩
  | 61 => ⟨S32x1x1, .i32⟩
  | 62 => ⟨S32x1x1, .i1⟩
  | 63 => ⟨S1x1x1, .i32⟩
  | 64 => ⟨S32x1x1, .i32⟩
  | 65 => ⟨S32x1x1, .i1⟩
  | 66 => ⟨S32x1x1, .i1⟩
  | 67 => ⟨S_, .i1⟩
  | 68 => ⟨S32x1, .i1⟩
  | 69 => ⟨S32x1, .f32⟩
  | 70 => ⟨S_, .f32⟩
  | 71 => ⟨S32x1, .f32⟩
  | 72 => ⟨S32x1, .f32⟩
  | 73 => ⟨S32, .f32⟩
  | 74 => ⟨S32x1000000, .f32⟩
  | 75 => ⟨S32x1000000, .f32⟩
  | 76 => ⟨S_, .f32⟩
  | 77 => ⟨S32, .f32⟩
  | 78 => ⟨S32, .f32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_v12 : Ref sig .tc := ⟨.hbm, 280, rfl⟩
abbrev main_v13 : Ref sig .tc := ⟨.hbm, 281, rfl⟩
abbrev main_cst_4 : Ref sig .tc := ⟨.hbm, 282, rfl⟩
abbrev main_v14 : Ref sig .tc := ⟨.hbm, 283, rfl⟩
abbrev main_v15 : Ref sig .tc := ⟨.hbm, 284, rfl⟩
abbrev main_v16 : Ref sig .tc := ⟨.hbm, 285, rfl⟩
abbrev main_call1_v0 : Ref sig .tc := ⟨.hbm, 286, rfl⟩
abbrev main_call1_cst : Ref sig .tc := ⟨.hbm, 287, rfl⟩
abbrev main_call1_c : Ref sig .tc := ⟨.hbm, 288, rfl⟩
abbrev main_call1_v1_0 : Ref sig .tc := ⟨.hbm, 289, rfl⟩
abbrev main_v17 : Ref sig .tc := ⟨.hbm, 290, rfl⟩
abbrev main_call2_cst : Ref sig .tc := ⟨.hbm, 291, rfl⟩
abbrev main_call2_v0 : Ref sig .tc := ⟨.hbm, 292, rfl⟩
abbrev main_call2_cst_0 : Ref sig .tc := ⟨.hbm, 293, rfl⟩
abbrev main_call2_v1 : Ref sig .tc := ⟨.hbm, 294, rfl⟩
abbrev main_call2_v2 : Ref sig .tc := ⟨.hbm, 295, rfl⟩
abbrev main_call2_v3 : Ref sig .tc := ⟨.hbm, 296, rfl⟩
abbrev main_call2_v4 : Ref sig .tc := ⟨.hbm, 297, rfl⟩
abbrev main_call2_v5 : Ref sig .tc := ⟨.hbm, 298, rfl⟩
abbrev main_call2_v6 : Ref sig .tc := ⟨.hbm, 299, rfl⟩
abbrev main_call2_cst_1 : Ref sig .tc := ⟨.hbm, 300, rfl⟩
abbrev main_call2_v7 : Ref sig .tc := ⟨.hbm, 301, rfl⟩
abbrev main_call2_v8 : Ref sig .tc := ⟨.hbm, 302, rfl⟩
abbrev main_call2_v9 : Ref sig .tc := ⟨.hbm, 303, rfl⟩
abbrev main_call2_v10 : Ref sig .tc := ⟨.hbm, 304, rfl⟩
abbrev main_v18 : Ref sig .tc := ⟨.hbm, 305, rfl⟩
abbrev main_v19 : Ref sig .tc := ⟨.hbm, 306, rfl⟩
abbrev main_call3_c : Ref sig .tc := ⟨.hbm, 307, rfl⟩
abbrev main_call3_v0 : Ref sig .tc := ⟨.hbm, 308, rfl⟩
abbrev main_call3_v1 : Ref sig .tc := ⟨.hbm, 309, rfl⟩
abbrev main_call3_c_0 : Ref sig .tc := ⟨.hbm, 310, rfl⟩
abbrev main_call3_v2 : Ref sig .tc := ⟨.hbm, 311, rfl⟩
abbrev main_call3_v3 : Ref sig .tc := ⟨.hbm, 312, rfl⟩
abbrev main_call3_v4 : Ref sig .tc := ⟨.hbm, 313, rfl⟩
abbrev main_call3_v5 : Ref sig .tc := ⟨.hbm, 314, rfl⟩
abbrev main_call3_c_1 : Ref sig .tc := ⟨.hbm, 315, rfl⟩
abbrev main_call3_c_2 : Ref sig .tc := ⟨.hbm, 316, rfl⟩
abbrev main_call3_v6 : Ref sig .tc := ⟨.hbm, 317, rfl⟩
abbrev main_call3_v7 : Ref sig .tc := ⟨.hbm, 318, rfl⟩
abbrev main_call3_v8 : Ref sig .tc := ⟨.hbm, 319, rfl⟩
abbrev main_call3_v9 : Ref sig .tc := ⟨.hbm, 320, rfl⟩
abbrev main_call3_v10 : Ref sig .tc := ⟨.hbm, 321, rfl⟩
abbrev main_call3_v11 : Ref sig .tc := ⟨.hbm, 322, rfl⟩
abbrev main_call3_c_3 : Ref sig .tc := ⟨.hbm, 323, rfl⟩
abbrev main_call3_v12 : Ref sig .tc := ⟨.hbm, 324, rfl⟩
abbrev main_call3_v13 : Ref sig .tc := ⟨.hbm, 325, rfl⟩
abbrev main_call3_cst : Ref sig .tc := ⟨.hbm, 326, rfl⟩
abbrev main_call3_v14 : Ref sig .tc := ⟨.hbm, 327, rfl⟩
abbrev main_v20 : Ref sig .tc := ⟨.hbm, 328, rfl⟩
abbrev main_v21 : Ref sig .tc := ⟨.hbm, 329, rfl⟩
abbrev main_v22 : Ref sig .tc := ⟨.hbm, 330, rfl⟩
abbrev main_v23 : Ref sig .tc := ⟨.hbm, 331, rfl⟩
abbrev main_cst_5 : Ref sig .tc := ⟨.hbm, 332, rfl⟩
abbrev main_v24 : Ref sig .tc := ⟨.hbm, 333, rfl⟩
abbrev main_v25 : Ref sig .tc := ⟨.hbm, 334, rfl⟩

abbrev nD : Nat := 1
abbrev τ : Topo := Topo.v7x

variable {F : FTy → Type} [FloatOps F]
-- ==== Proof.Chunk.lean ====
module

public import proofs.«01_k».proof.Proof.Gen.KernelIdeal.Loops
public import Idealize.ShloMosaic.Lib.ValueIdxCore

@[expose] public section

set_option maxRecDepth 8192

noncomputable section

namespace Cert.Proof.KI

open Idealize.ShloMosaic Idealize.ShloMosaic.TcCoe
open Cert.KernelIdeal Cert.KernelIdeal.Facts₀ Cert.KernelIdeal.Facts

variable {F : FTy → Type} [FloatOps F]

/-! # One chunk of 256 columns, as a function of the carried lanes

The kernel walks a block of 16384 columns in 64 chunks of 256. Everything it does with one chunk is
written here once; `Trip.lean` shows that the printed loop bodies are eight of these steps. -/

/-- Rotate every word left by `a`, written as the kernel writes it: `b` is `32 - a`. -/
def rotV {s : Shape} (x : IVec s 32) (a b : BitVec 32) : IVec s 32 :=
  ori (shli x (broadcast s a)) (shrui x (broadcast s b))

/-- One round of the generator on a pair of words. -/
def mixV {s : Shape} (p : IVec s 32 × IVec s 32) (a b : BitVec 32) : IVec s 32 × IVec s 32 :=
  (addi p.1 p.2, xori (rotV p.2 a b) (addi p.1 p.2))

/-- The key words and the round number added after a group of four rounds. -/
def injV {s : Shape} (p : IVec s 32 × IVec s 32) (a b n : BitVec 32) : IVec s 32 × IVec s 32 :=
  (addi p.1 (broadcast s a), addi (addi p.2 (broadcast s b)) (broadcast s n))

/-- The first kind of group of four rounds. -/
def fourA {s : Shape} (p : IVec s 32 × IVec s 32) : IVec s 32 × IVec s 32 :=
  mixV (mixV (mixV (mixV p 13#32 19#32) 15#32 17#32) 26#32 6#32) 6#32 26#32

/-- The second kind of group of four rounds. -/
def fourB {s : Shape} (p : IVec s 32 × IVec s 32) : IVec s 32 × IVec s 32 :=
  mixV (mixV (mixV (mixV p 17#32 15#32) 29#32 3#32) 16#32 16#32) 24#32 8#32

/-- The first group of four rounds: the first word starts at zero, so its first round is shorter. -/
def fourS {s : Shape} (x : IVec s 32) : IVec s 32 × IVec s 32 :=
  mixV (mixV (mixV (x, xori (rotV x 13#32 19#32) x) 15#32 17#32) 26#32 6#32) 6#32 26#32

/-- The two output words of the generator at counter word `x`. -/
def tfPair {s : Shape} (x : IVec s 32) : IVec s 32 × IVec s 32 :=
  injV (fourA (injV (fourB (injV (fourA (injV (fourB (injV (fourS x) 1#32 466688987#32 1#32))
    466688987#32 0#32 2#32)) 0#32 1#32 3#32)) 1#32 466688987#32 4#32)) 466688987#32 0#32 5#32

/-- The random word the kernel draws at counter word `x`. -/
def tfV {s : Shape} (x : IVec s 32) : IVec s 32 := xori (tfPair x).1 (tfPair x).2

/-- The Gumbel noise made of a random word. -/
def gumV {s : Shape} (w : IVec s 32) : FVec F s .f32 :=
  subf (broadcast s (Scalar.ofBits .f32 0x00000000#32)) (log (subf (broadcast s (Scalar.ofBits .f32 0x00000000#32)) (log
    (maximumf (subf (bitcastToFloat .f32 (ori (shrui w (broadcast s 9#32)) (broadcast s 1065353216#32)))
      (broadcast s (Scalar.ofBits .f32 0x3F800000#32))) (broadcast s (Scalar.ofBits .f32 0x1E3CE508#32))))))

/-- The left half of a chunk: its first 128 columns. -/
def loV {α : Type} (x : S32x256.Idx → α) : S32x128.Idx → α :=
  extractStridedSlice S32x128 ![0, 0] x slices_S32x256_o0_0_S32x128

/-- The right half of a chunk: its last 128 columns. -/
def hiV {α : Type} (x : S32x256.Idx → α) : S32x128.Idx → α :=
  extractStridedSlice S32x128 ![0, 128] x slices_S32x256_o0_128_S32x128

/-- What the kernel carries per lane: the sum of exponentials, the sum of logit times exponential,
    the best score, and the counter word of the best score. -/
abbrev Acc (F : FTy → Type) [FloatOps F] : Type :=
  Vec F S32x128 .f32 × Vec F S32x128 .f32 × Vec F S32x128 .f32 × Vec F S32x128 .i32

/-- Fold one chunk (scores, exponentials, logits, counter words) into the carried lanes. -/
def foldV (score e x : FVec F S32x256 .f32) (idx : IVec S32x256 32) (a : Acc F) : Acc F :=
  let up := cmpf .ogt (select (cmpf .ogt (hiV score) (loV score)) (hiV score) (loV score)) a.2.2.1
  (addf a.1 (addf (loV e) (hiV e)),
   addf a.2.1 (addf (loV (mulf x e)) (hiV (mulf x e))),
   select up (select (cmpf .ogt (hiV score) (loV score)) (hiV score) (loV score)) a.2.2.1,
   select up (select (cmpf .ogt (hiV score) (loV score)) (hiV idx) (loV idx)) a.2.2.2)

/-- The word `8 k + j`: the number of the `j`-th chunk of trip `k`. -/
def chunkNo (k j : BitVec 32) : BitVec 32 := Scalar.addi (Scalar.muli 8#32 k) j

/-- The counter words of chunk `n` of block `i`. -/
def idxV (i : grid0.Coords) (n : BitVec 32) : IVec S32x256 32 :=
  addi (Gen.k0_pay1 i) (broadcast S32x256 (Scalar.muli n 256#32))

/-- Fold chunk `n` of a full block. -/
def chunkV (i : grid0.Coords) (n : BitVec 32) (x : FVec F S32x256 .f32) (a : Acc F) : Acc F :=
  foldV (addf x (gumV (tfV (idxV i n)))) (exp x) x (idxV i n) a

/-- The columns of chunk `n` of block `i` that exist. -/
def validV (i : grid0.Coords) (n : BitVec 32) : IVec S32x256 1 :=
  cmpi .slt (addi (iota .tc S32x256 32 [1] iota_S32x256_d1_w32) (broadcast S32x256
    (Scalar.addi (Scalar.muli (BitVec.ofNat 32 (i 0).val) 16384#32) (Scalar.muli n 256#32))))
    (broadcast S32x256 1000000#32)

/-- Fold chunk `n` of the last block: a column that does not exist counts for nothing. -/
def chunkT (i : grid0.Coords) (n : BitVec 32) (x : FVec F S32x256 .f32) (a : Acc F) : Acc F :=
  foldV (select (validV i n) (addf x (gumV (tfV (idxV i n)))) (broadcast S32x256 (Scalar.ofBits .f32 0xFF800000#32)))
    (select (validV i n) (exp x) (broadcast S32x256 (Scalar.ofBits .f32 0x00000000#32)))
    (select (validV i n) x (broadcast S32x256 (Scalar.ofBits .f32 0x00000000#32)))
    (idxV i n) a

/-- Eight steps, one for each chunk of a trip. -/
def eight {A : Type} (f : Fin 8 → A → A) (a : A) : A :=
  f 7 (f 6 (f 5 (f 4 (f 3 (f 2 (f 1 (f 0 a)))))))

/-- The number of chunk `r` of trip `k`, as the kernel computes it. -/
def chunkWord (k : ℕ) (r : Fin 8) : BitVec 32 :=
  chunkNo (Scf.iv (w := 32) 0#32 1#32 k) (BitVec.ofNat 32 r.val)

/-- The steps `0, 1, …, n - 1` one after another. -/
def steps {A : Type} (f : ℕ → A → A) : ℕ → A → A
  | 0, a => a
  | n + 1, a => f n (steps f n a)

/-- Chunk `n` of a block: the columns from `256 n` on. -/
def subV {α : Type} (x : S32x16384.Idx → α) (n : ℕ) : S32x256.Idx → α := fun j =>
  x (ValueIdx.ix2 (j 0) ⟨(256 * n + (j 1).val) % 16384, Nat.mod_lt _ (by decide)⟩)

/-- The carried lanes after a full block. -/
def blockV (i : grid0.Coords) (x : S32x16384.Idx → F .f32) (a : Acc F) : Acc F :=
  steps (fun n a => chunkV i (BitVec.ofNat 32 n) (subV x n) a) 64 a

/-- The lanes after the last block. -/
def blockT (i : grid0.Coords) (x : S32x16384.Idx → F .f32) (a : Acc F) : Acc F :=
  steps (fun n a => chunkT i (BitVec.ofNat 32 n) (subV x n) a) 64 a

/-- What the lanes start from. -/
def accInit : Acc F :=
  (broadcast S32x128 (Scalar.ofBits .f32 0x00000000#32), broadcast S32x128 (Scalar.ofBits .f32 0x00000000#32),
   broadcast S32x128 (Scalar.ofBits .f32 0xFF800000#32), broadcast S32x128 0#32)

/-- The sum of a row's lanes. -/
def sumL (x : FVec F S32x128 .f32) : FVec F S32x1 .f32 :=
  shapeCast S32x1 (multiReduction .add [1] S32 x 0x00000000#32 reduces_S32x128_S32 (.inl rfl) rfl) shapeCasts_S32_S32x1

/-- The maximum of a row's lanes. -/
def maxL (x : FVec F S32x128 .f32) : FVec F S32x1 .f32 :=
  shapeCast S32x1 (multiReduction .maximumf [1] S32 x 0xFF800000#32 reduces_S32x128_S32 (.inl rfl) rfl) shapeCasts_S32_S32x1

/-- The least counter word among the lanes that hold the row's maximum. -/
def bestW (a : Acc F) : IVec S32x1 32 :=
  shapeCast S32x1 (multiReductionI .minsi [1] S32
    (select (cmpf .oeq a.2.2.1 (broadcastTo S32x128 (maxL a.2.2.1) broadcasts_S32x1_S32x128)) a.2.2.2 (broadcast S32x128 1073741824#32))
    2147483647#32 reduces_S32x128_S32 rfl) shapeCasts_S32_S32x1

/-- The action written for each row. -/
def outAct (a : Acc F) : IVec S32x1 32 :=
  subi (subi (bestW a) (muli (iota .tc S32x1 32 [0] iota_S32x1_d0_w32) (broadcast S32x1 1000000#32))) (broadcast S32x1 1#32)

/-- The log-probability written for each row. -/
def outPi (a : Acc F) : FVec F S32x1 .f32 :=
  subf (subf (maxL a.2.2.1) (gumV (tfV (bestW a)))) (log (sumL a.1))

/-- The entropy written for each row. -/
def outEnt (a : Acc F) : FVec F S32x1 .f32 :=
  subf (log (sumL a.1)) (divf (sumL a.2.1) (sumL a.1))

end Cert.Proof.KI
-- ==== Proof.Trip.lean ====
module

public import proofs.«01_k».proof.Proof.Chunk
public import Idealize.ShloMosaic.Lib.Tactic.Stretches

@[expose] public section

set_option maxRecDepth 8192

noncomputable section

namespace Cert.Proof.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F]

variable (𝒱 : Variants) (c : Dev nD) (bd : Option 𝒱.V) (i : grid0.Coords)
  (arg1 : Memref sig .tc .vmem S32x16384 .f32) (harg1 : arg1.IsWhole)
  (arg2 : Memref sig .tc .vmem S32x1 .i32) (harg2 : arg2.IsWhole)
  (arg3 : Memref sig .tc .vmem S32x1 .f32) (harg3 : arg3.IsWhole)
  (arg4 : Memref sig .tc .vmem S32x1 .f32) (harg4 : arg4.IsWhole)
  (arg5 : Memref sig .tc .vmem S32x128 .f32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S32x128 .i32) (harg8 : arg8.IsWhole)

/-- One trip of the loop over a full block folds its eight chunks. -/
theorem tripR1 (h2 : k0_cond2 i = 1#1) (X : BufTy.Contents (Elt F) arg1.view.ty) (k : Fin k0_t1_loop.trips) (a : Acc F) :
    Gen.tripR_k0_t1 𝒱 c bd i arg1 harg1 arg2 harg2 arg3 harg3 arg4 harg4 arg5 harg5 arg6 harg6 arg7 harg7 arg8 harg8 h2 X k a
      = eight (fun r a => chunkV i (chunkWord k.val r)
          (View.readAt (Elt F) arg1.view (Rect.unit (s := S32x16384) (k0_off1 k (BitVec.ofNat 32 r.val)) S32x256.size (k0_off1_inb i k h2 r)).toLoadRect X) a) a := by
  unfold Gen.tripR_k0_t1 Gen.trip_k0_t1
  sl_open_run
  sl_open_pay
  dsimp only [eight, chunkV, foldV, tfV, tfPair, fourA, fourB, fourS, mixV, injV, rotV, gumV, idxV, loV, hiV, chunkNo, chunkWord]
  rfl

/-- One trip of the loop over the last block folds its eight chunks. -/
theorem tripR2 (v12 v13 v14 : Vec F S32x128 .f32) (v15 : Vec F S32x128 .i32) (h3 : k0_cond3 i = 1#1) (X : BufTy.Contents (Elt F) arg1.view.ty) (k : Fin k0_t2_loop.trips) (a : Acc F) :
    Gen.tripR_k0_t2 𝒱 c bd i arg1 harg1 arg2 harg2 arg3 harg3 arg4 harg4 arg5 harg5 arg6 harg6 arg7 harg7 arg8 harg8
        (BitVec.ofNat 32 (i 0).val) (iota .tc S32x256 32 [1] iota_S32x256_d1_w32) (Gen.k0_pay1 i) v12 v13 v14 v15 h3 X k a
      = eight (fun r a => chunkT i (chunkWord k.val r)
          (View.readAt (Elt F) arg1.view (Rect.unit (s := S32x16384) (k0_off2 k (BitVec.ofNat 32 r.val)) S32x256.size (k0_off2_inb i k h3 r)).toLoadRect X) a) a := by
  unfold Gen.tripR_k0_t2 Gen.trip_k0_t2
  sl_open_run
  sl_open_pay
  dsimp only [eight, chunkT, foldV, tfV, tfPair, fourA, fourB, fourS, mixV, injV, rotV, gumV, idxV, validV, loV, hiV, chunkNo, chunkWord]
  rfl

/-- The first loop makes eight trips. -/
theorem trips1 : k0_t1_loop.trips = 8 := by decide +kernel
/-- The second loop makes eight trips. -/
theorem trips2 : k0_t2_loop.trips = 8 := by decide +kernel

/-- The word of chunk `r` of trip `k` is the number `8 k + r`. -/
theorem chunkWord_eq : ∀ (k r : Fin 8), chunkWord k.val r = BitVec.ofNat 32 (8 * k.val + r.val) := by decide +kernel

/-- A read of 256 columns at offset `2048 k + 256 r` of a block is chunk `8 k + r`. -/
theorem readAt_sub {off : Fin 2 → ℕ} (k r : ℕ) (hk : k < 8) (hr : r < 8) (h : off = ![0, 2048 * k + 256 * r])
    (inb : ∀ a, off a + S32x256.size a ≤ S32x16384.size a) (X : BufTy.Contents (Elt F) arg1.view.ty) :
    View.readAt (Elt F) arg1.view (Rect.unit (s := S32x16384) off S32x256.size inb).toLoadRect X
      = subV (arg1.view.read (Elt F) X) (8 * k + r) := by
  subst h
  funext j
  refine congrArg (arg1.view.read (Elt F) X) ?_
  have h0 : (j 0).val < 32 := (j 0).isLt
  have h1 : (j 1).val < 256 := (j 1).isLt
  funext a
  match a with
  | ⟨0, _⟩ => exact Fin.ext (by show 0 + 1 * (j 0).val = (j 0).val; omega)
  | ⟨1, _⟩ => exact Fin.ext (by show 2048 * k + 256 * r + 1 * (j 1).val = (256 * (8 * k + r) + (j 1).val) % 16384; omega)

/-- Eight equal steps come to the same. -/
theorem eight_congr {A : Type} {f g : Fin 8 → A → A} (h : ∀ r a, f r a = g r a) (a : A) : eight f a = eight g a := by
  have : f = g := funext fun r => funext fun a => h r a
  rw [this]

/-- Trip by trip is chunk by chunk. -/
theorem steps_eight {A : Type} (f : ℕ → A → A) (k : ℕ) (a : A) :
    eight (fun r a => f (8 * k + r.val) a) (steps f (8 * k) a) = steps f (8 * (k + 1)) a := rfl

/-- The loop over a full block folds its 64 chunks. -/
theorem st1_eq (h2 : k0_cond2 i = 1#1) (X : BufTy.Contents (Elt F) arg1.view.ty) (a : Acc F) :
    Gen.st_k0_t1 𝒱 c bd i arg1 harg1 arg2 harg2 arg3 harg3 arg4 harg4 arg5 harg5 arg6 harg6 arg7 harg7 arg8 harg8 h2 X a k0_t1_loop.trips
      = blockV i (arg1.view.read (Elt F) X) a := by
  have key : ∀ n : ℕ, n ≤ 8 → Gen.st_k0_t1 𝒱 c bd i arg1 harg1 arg2 harg2 arg3 harg3 arg4 harg4 arg5 harg5 arg6 harg6 arg7 harg7 arg8 harg8 h2 X a n
      = steps (fun n a => chunkV i (BitVec.ofNat 32 n) (subV (arg1.view.read (Elt F) X) n) a) (8 * n) a := by
    intro n
    induction n with
    | zero => intro _; rfl
    | succ n ih =>
      intro hn
      have hlt : n < k0_t1_loop.trips := by rw [trips1]; omega
      have e := Gen.st_k0_t1_succ (F := F) 𝒱 c bd i arg1 harg1 arg2 harg2 arg3 harg3 arg4 harg4 arg5 harg5 arg6 harg6 arg7 harg7 arg8 harg8 h2 X a ⟨n, hlt⟩
      rw [tripR1] at e
      refine e.trans ?_
      rw [ih (by omega), ← steps_eight]
      refine eight_congr (fun r a => ?_) _
      rw [chunkWord_eq ⟨n, by omega⟩ r, readAt_sub arg1 n r.val (by omega) r.isLt (Gen.k0_off1_eq ⟨n, hlt⟩ r)]
  rw [trips1]
  exact key 8 le_rfl

/-- The loop over the last block folds its 64 chunks. -/
theorem st2_eq (v12 v13 v14 : Vec F S32x128 .f32) (v15 : Vec F S32x128 .i32) (h3 : k0_cond3 i = 1#1)
    (X : BufTy.Contents (Elt F) arg1.view.ty) (a : Acc F) :
    Gen.st_k0_t2 𝒱 c bd i arg1 harg1 arg2 harg2 arg3 harg3 arg4 harg4 arg5 harg5 arg6 harg6 arg7 harg7 arg8 harg8
        (BitVec.ofNat 32 (i 0).val) (iota .tc S32x256 32 [1] iota_S32x256_d1_w32) (Gen.k0_pay1 i) v12 v13 v14 v15 h3 X a k0_t2_loop.trips
      = blockT i (arg1.view.read (Elt F) X) a := by
  have key : ∀ n : ℕ, n ≤ 8 → Gen.st_k0_t2 𝒱 c bd i arg1 harg1 arg2 harg2 arg3 harg3 arg4 harg4 arg5 harg5 arg6 harg6 arg7 harg7 arg8 harg8
        (BitVec.ofNat 32 (i 0).val) (iota .tc S32x256 32 [1] iota_S32x256_d1_w32) (Gen.k0_pay1 i) v12 v13 v14 v15 h3 X a n
      = steps (fun n a => chunkT i (BitVec.ofNat 32 n) (subV (arg1.view.read (Elt F) X) n) a) (8 * n) a := by
    intro n
    induction n with
    | zero => intro _; rfl
    | succ n ih =>
      intro hn
      have hlt : n < k0_t2_loop.trips := by rw [trips2]; omega
      have e := Gen.st_k0_t2_succ (F := F) 𝒱 c bd i arg1 harg1 arg2 harg2 arg3 harg3 arg4 harg4 arg5 harg5 arg6 harg6 arg7 harg7 arg8 harg8
        (BitVec.ofNat 32 (i 0).val) (iota .tc S32x256 32 [1] iota_S32x256_d1_w32) (Gen.k0_pay1 i) v12 v13 v14 v15 h3 X a ⟨n, hlt⟩
      rw [tripR2] at e
      rw [e]
      rw [ih (by omega), ← steps_eight]
      refine eight_congr (fun r a => ?_) _
      rw [chunkWord_eq ⟨n, by omega⟩ r, readAt_sub arg1 n r.val (by omega) r.isLt (Gen.k0_off2_eq ⟨n, hlt⟩ r)]
  rw [trips2]
  exact key 8 le_rfl

end Cert.Proof.KI
-- ==== Proof.Body.lean ====
module

public import proofs.«01_k».proof.Proof.Trip
public import Idealize.ShloMosaic.Lib.VecWindow
public import Idealize.ShloMosaic.Lib.Pipeline.Frame
public import Idealize.ShloMosaic.Lib.Pipeline.Value

@[expose] public section

set_option maxRecDepth 8192

noncomputable section

namespace Cert.Proof.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords)
  (arg1 : Memref sig .tc .vmem S32x16384 .f32) (harg1 : arg1.IsWhole)
  (arg2 : Memref sig .tc .vmem S32x1 .i32) (harg2 : arg2.IsWhole)
  (arg3 : Memref sig .tc .vmem S32x1 .f32) (harg3 : arg3.IsWhole)
  (arg4 : Memref sig .tc .vmem S32x1 .f32) (harg4 : arg4.IsWhole)
  (arg5 : Memref sig .tc .vmem S32x128 .f32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S32x128 .i32) (harg8 : arg8.IsWhole)
  (X1 : BufTy.Contents (Elt F) arg1.view.ty) (X2 : BufTy.Contents (Elt F) arg2.view.ty)
  (X3 : BufTy.Contents (Elt F) arg3.view.ty) (X4 : BufTy.Contents (Elt F) arg4.view.ty)
  (X5 : BufTy.Contents (Elt F) arg5.view.ty) (X6 : BufTy.Contents (Elt F) arg6.view.ty)
  (X7 : BufTy.Contents (Elt F) arg7.view.ty) (X8 : BufTy.Contents (Elt F) arg8.view.ty)

/-- The buffers of one grid point, at raw contents. -/
def held : sProp 𝕄G :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8))

/-- The test of the first branch, at a point that is not the first. -/
theorem first_no (h : (i 0).val ≠ 0) :
    ¬ Scalar.cmpi .ne (Scalar.extui (Scalar.cmpi .eq (BitVec.ofNat 32 (i 0).val) 0#32) : BitVec 32) 0#32 = 1#1 := by
  have hi : (i 0).val < 62 := (i 0).isLt
  revert h hi
  generalize (i 0).val = n
  intro h hi
  interval_cases n <;> first | exact absurd rfl h | decide

/-- The test of the first branch, at the first point. -/
theorem first_yes (h : (i 0).val = 0) :
    Scalar.cmpi .ne (Scalar.extui (Scalar.cmpi .eq (BitVec.ofNat 32 (i 0).val) 0#32) : BitVec 32) 0#32 = 1#1 := by
  rw [h]; decide

/-- The offsets of a whole read are zero. -/
theorem hz : (![0, 0] : Fin 2 → ℕ) = fun _ => 0 := funext fun a => by fin_cases a <;> rfl

/-- What four buffers read. -/
def readAcc : Acc F :=
  (arg5.view.read (Elt F) X5, arg6.view.read (Elt F) X6, arg7.view.read (Elt F) X7, arg8.view.read (Elt F) X8)

/-- The first loop's trip count, from its bounds. -/
theorem trips1' : Scf.trips k0_t1_loop.lb k0_t1_loop.ub k0_t1_loop.st = k0_t1_loop.trips := rfl
/-- The second loop's trip count, from its bounds. -/
theorem trips2' : Scf.trips k0_t2_loop.lb k0_t2_loop.ub k0_t2_loop.st = k0_t2_loop.trips := rfl

/-- A full block after the first: the four carried buffers go through the block's chunks. -/
theorem run_mid (h1 : (i 0).val ≠ 0) (h2 : k0_cond2 i = 1#1) (h3 : ¬ k0_cond3 i = 1#1) :
    held (F := F) c arg1 arg2 arg3 arg4 arg5 arg6 arg7 arg8 X1 X2 X3 X4 X5 X6 X7 X8
    ⊢ wp frame (wpE (defs₀ (F := F)) 𝒱 (c : Thread nD τ) bd) E
        (cc0__body (F := F) i arg1 harg1 arg2 harg2 arg3 harg3 arg4 harg4 arg5 harg5 arg6 harg6 arg7 harg7 arg8 harg8)
        (fun _ => iprop(∃ Y5 Y6 Y7 Y8, held (F := F) c arg1 arg2 arg3 arg4 arg5 arg6 arg7 arg8 X1 X2 X3 X4 Y5 Y6 Y7 Y8
          ∗ ⌜readAcc arg5 arg6 arg7 arg8 Y5 Y6 Y7 Y8
              = blockV i (arg1.view.read (Elt F) X1) (readAcc arg5 arg6 arg7 arg8 X5 X6 X7 X8)⌝)) := by
  have hv := first_no i h1
  rw [Gen.cc0__body_eq_skeleton]
  unfold Gen.cc0__body_skel held
  iintro ⟨H1, H2, H3, H4, H5, H6, H7, H8⟩
  sl_exec!
  sl_step
  iexists _, _, _, _
  isplitl [H1 H2 H3 H4 H5 H6 H7 H8]
  · sl_close
  ipureintro
  sl_open_run
  sl_open_pay
  unfold readAcc
  rw [View.readAt_full, View.readAt_full, View.readAt_full, View.readAt_full, trips1', st1_eq, shapeCast_self, shapeCast_self, shapeCast_self, shapeCast_self,
    View.read_writes_full, View.read_writes_full, View.read_writes_full, View.read_writes_full]

/-- The first block: the four carried buffers are reset, then go through the block's chunks. -/
theorem run_first (h1 : (i 0).val = 0) (h2 : k0_cond2 i = 1#1) (h3 : ¬ k0_cond3 i = 1#1) :
    held (F := F) c arg1 arg2 arg3 arg4 arg5 arg6 arg7 arg8 X1 X2 X3 X4 X5 X6 X7 X8
    ⊢ wp frame (wpE (defs₀ (F := F)) 𝒱 (c : Thread nD τ) bd) E
        (cc0__body (F := F) i arg1 harg1 arg2 harg2 arg3 harg3 arg4 harg4 arg5 harg5 arg6 harg6 arg7 harg7 arg8 harg8)
        (fun _ => iprop(∃ Y5 Y6 Y7 Y8, held (F := F) c arg1 arg2 arg3 arg4 arg5 arg6 arg7 arg8 X1 X2 X3 X4 Y5 Y6 Y7 Y8
          ∗ ⌜readAcc arg5 arg6 arg7 arg8 Y5 Y6 Y7 Y8
              = blockV i (arg1.view.read (Elt F) X1) accInit⌝)) := by
  have hv := first_yes i h1
  rw [Gen.cc0__body_eq_skeleton]
  unfold Gen.cc0__body_skel held
  iintro ⟨H1, H2, H3, H4, H5, H6, H7, H8⟩
  sl_exec!
  sl_step
  iexists _, _, _, _
  isplitl [H1 H2 H3 H4 H5 H6 H7 H8]
  · sl_close
  ipureintro
  sl_open_run
  sl_open_pay
  unfold readAcc
  rw [shapeCast_self, shapeCast_self, shapeCast_self, shapeCast_self,
    View.readCov_unit_zero (S := S32x128) _ hz, View.readCov_unit_zero (S := S32x128) _ hz, View.readCov_unit_zero (S := S32x128) _ hz, View.readCov_unit_zero (S := S32x128) _ hz,
    shapeCast_self, shapeCast_self, shapeCast_self,
    trips1', st1_eq, View.read_writes_full, View.read_writes_full, View.read_writes_full, View.read_writes_full]
  rfl

/-- The lanes after the last block, as the run writes them. -/
theorem st2_raw (h3 : k0_cond3 i = 1#1) :
    blockT i (arg1.view.read (Elt F) X1) (readAcc arg5 arg6 arg7 arg8 X5 X6 X7 X8)
      = Gen.st_k0_t2 𝒱 c bd i arg1 harg1 arg2 harg2 arg3 harg3 arg4 harg4 arg5 harg5 arg6 harg6 arg7 harg7 arg8 harg8
        (BitVec.ofNat 32 (i 0).val) (iota .tc S32x256 32 [1] iota_S32x256_d1_w32) (Gen.k0_pay1 i)
        (View.readAt (Elt F) arg5.view (Rect.unit (s := S32x128) ![0, 0] S32x128.size inb_S32x128_S32x128_0_0).toLoadRect X5)
        (View.readAt (Elt F) arg6.view (Rect.unit (s := S32x128) ![0, 0] S32x128.size inb_S32x128_S32x128_0_0).toLoadRect X6)
        (View.readAt (Elt F) arg7.view (Rect.unit (s := S32x128) ![0, 0] S32x128.size inb_S32x128_S32x128_0_0).toLoadRect X7)
        (View.readAt (Elt F) arg8.view (Rect.unit (s := S32x128) ![0, 0] S32x128.size inb_S32x128_S32x128_0_0).toLoadRect X8) h3 X1
        ((View.readAt (Elt F) arg5.view (Rect.unit (s := S32x128) ![0, 0] S32x128.size inb_S32x128_S32x128_0_0).toLoadRect X5),
         (View.readAt (Elt F) arg6.view (Rect.unit (s := S32x128) ![0, 0] S32x128.size inb_S32x128_S32x128_0_0).toLoadRect X6),
         (View.readAt (Elt F) arg7.view (Rect.unit (s := S32x128) ![0, 0] S32x128.size inb_S32x128_S32x128_0_0).toLoadRect X7),
         (View.readAt (Elt F) arg8.view (Rect.unit (s := S32x128) ![0, 0] S32x128.size inb_S32x128_S32x128_0_0).toLoadRect X8))
        (Scf.trips k0_t2_loop.lb k0_t2_loop.ub k0_t2_loop.st) := by
  rw [View.readAt_full, View.readAt_full, View.readAt_full, View.readAt_full, trips2', st2_eq]
  rfl

/-- The last block: the lanes go through the chunks that exist, and the three results are written. -/
theorem run_last (h1 : (i 0).val ≠ 0) (h2 : ¬ k0_cond2 i = 1#1) (h3 : k0_cond3 i = 1#1) :
    held (F := F) c arg1 arg2 arg3 arg4 arg5 arg6 arg7 arg8 X1 X2 X3 X4 X5 X6 X7 X8
    ⊢ wp frame (wpE (defs₀ (F := F)) 𝒱 (c : Thread nD τ) bd) E
        (cc0__body (F := F) i arg1 harg1 arg2 harg2 arg3 harg3 arg4 harg4 arg5 harg5 arg6 harg6 arg7 harg7 arg8 harg8)
        (fun _ => iprop(∃ Y2 Y3 Y4, held (F := F) c arg1 arg2 arg3 arg4 arg5 arg6 arg7 arg8 X1 Y2 Y3 Y4 X5 X6 X7 X8
          ∗ ⌜arg2.view.read (Elt F) Y2
                = outAct (blockT i (arg1.view.read (Elt F) X1) (readAcc arg5 arg6 arg7 arg8 X5 X6 X7 X8))
            ∧ arg3.view.read (Elt F) Y3
                = outPi (blockT i (arg1.view.read (Elt F) X1) (readAcc arg5 arg6 arg7 arg8 X5 X6 X7 X8))
            ∧ arg4.view.read (Elt F) Y4
                = outEnt (blockT i (arg1.view.read (Elt F) X1) (readAcc arg5 arg6 arg7 arg8 X5 X6 X7 X8))⌝)) := by
  have hv := first_no i h1
  rw [Gen.cc0__body_eq_skeleton]
  unfold Gen.cc0__body_skel held
  iintro ⟨H1, H2, H3, H4, H5, H6, H7, H8⟩
  sl_exec!
  sl_step
  iexists _, _, _
  isplitl [H1 H2 H3 H4 H5 H6 H7 H8]
  · sl_close
  ipureintro
  refine ⟨?_, ?_, ?_⟩
  · refine (View.read_writes_full _ _ _ _ _).trans ?_
    rw [st2_raw 𝒱 c bd i arg1 harg1 arg2 harg2 arg3 harg3 arg4 harg4 arg5 harg5 arg6 harg6 arg7 harg7 arg8 harg8 X1 X5 X6 X7 X8 h3]
    sl_open_run
    sl_open_pay
    dsimp only [outAct, bestW, maxL]
  · refine (View.read_writes_full _ _ _ _ _).trans ?_
    rw [st2_raw 𝒱 c bd i arg1 harg1 arg2 harg2 arg3 harg3 arg4 harg4 arg5 harg5 arg6 harg6 arg7 harg7 arg8 harg8 X1 X5 X6 X7 X8 h3]
    sl_open_run
    sl_open_pay
    dsimp only [outPi, bestW, maxL, sumL, tfV, tfPair, fourA, fourB, fourS, mixV, injV, rotV, gumV]
  · refine (View.read_writes_full _ _ _ _ _).trans ?_
    rw [st2_raw 𝒱 c bd i arg1 harg1 arg2 harg2 arg3 harg3 arg4 harg4 arg5 harg5 arg6 harg6 arg7 harg7 arg8 harg8 X1 X5 X6 X7 X8 h3]
    sl_open_run
    sl_open_pay
    dsimp only [outEnt, sumL]

end Cert.Proof.KI
-- ==== Proof.Dats.lean ====
module

public import proofs.«01_k».proof.Proof.Body
public import proofs.«01_k».proof.Proof.Gen.KernelIdeal.Frame
public import proofs.«01_k».proof.Proof.Gen.KernelIdeal.Points
public import Idealize.ShloMosaic.Lib.Pipeline.FrameSuffix
public import Idealize.ShloMosaic.Lib.Pipeline.TableIdle

@[expose] public section

set_option maxRecDepth 8192

noncomputable section

namespace Cert.Proof.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Cert.KernelIdeal Cert.KernelIdeal.Gen Cert.KernelIdeal.Facts₀ Cert.KernelIdeal.Facts

variable {F : FTy → Type} [FloatOps F]

local notation "𝕄G" => MT nD τ sig Unit (Elt F) ℕ (UR sig nD τ) ℕ

/-! ## The grid's points -/

/-- The grid's point number `t`. -/
def pt (t : ℕ) : grid0.Coords := grid0.coords ⟨t % 62, Nat.mod_lt _ (by decide)⟩

/-- The grid point of a step, by its number. -/
theorem coords_eq (t : Fin cfg0.N) : grid0.coords t = pt t.val :=
  congrArg grid0.coords (Fin.ext (Nat.mod_eq_of_lt t.isLt).symm)

/-- The coordinate of a step is its number. -/
theorem coords_val (t : Fin cfg0.N) : (grid0.coords t 0).val = t.val := by
  revert t; decide

/-- The coordinate of point `t` is `t`. -/
theorem pt_val {t : ℕ} (h : t < 62) : (pt t 0).val = t := by
  have := coords_val ⟨t, h⟩
  rwa [coords_eq] at this

/-- The branch for a full block is taken at every point but the last, -/
theorem cond2_pt (t : Fin cfg0.N) : k0_cond2 (grid0.coords t) = 1#1 ↔ t.val ≠ 61 := by
  revert t; decide

/-- and the branch for the last block at the last. -/
theorem cond3_pt (t : Fin cfg0.N) : k0_cond3 (grid0.coords t) = 1#1 ↔ t.val = 61 := by
  revert t; decide

/-! ## The values of the run -/

/-- Block `t` of the logits: column `j` of it is column `16384 t + j` of the array, and past the array's end any word. -/
def blkOf (X : S32x1000000.Idx → Elt F .f32) (t : ℕ) : Vec F S32x16384 .f32 :=
  fun j => X (ValueIdx.ix2 (j 0) ⟨(16384 * t + (j 1).val) % 1000000, Nat.mod_lt _ (by decide)⟩)

/-- The four carried buffers after the first `t` blocks. -/
def accAt (X : S32x1000000.Idx → Elt F .f32) : ℕ → Acc F
  | 0 => accInit
  | t + 1 => blockV (pt t) (blkOf X t) (accAt X t)

/-- The four carried buffers after the last block. -/
def accEnd (X : S32x1000000.Idx → Elt F .f32) : Acc F := blockT (pt 61) (blkOf X 61) (accAt X 61)

/-- Column `j` of chunk `n` of block `t` is inside the array. -/
theorem validV_iff {t n : ℕ} (ht : t < 62) (hn : n < 64) (j : S32x256.Idx) :
    validV (pt t) (BitVec.ofNat 32 n) j = 1#1 ↔ 16384 * t + (256 * n + (j 1).val) < 1000000 := by
  have hj : (j 1).val < 256 := (j 1).isLt
  have e : addi (iota .tc S32x256 32 [1] Facts₀.iota_S32x256_d1_w32) (broadcast S32x256
      (Scalar.addi (Scalar.muli (BitVec.ofNat 32 (pt t 0).val) 16384#32) (Scalar.muli (BitVec.ofNat 32 n) 256#32))) j
      = BitVec.ofNat 32 (16384 * t + (256 * n + (j 1).val)) := by
    show iota .tc S32x256 32 [1] Facts₀.iota_S32x256_d1_w32 j + (BitVec.ofNat 32 (pt t 0).val * 16384#32 + BitVec.ofNat 32 n * 256#32) = _
    rw [iota_single_apply, pt_val ht]
    refine BitVec.eq_of_toNat_eq ?_
    simp only [BitVec.toNat_add, BitVec.toNat_mul, BitVec.toNat_ofNat]
    omega
  show IntOp.cmpi .slt (addi _ _ j) 1000000#32 = 1#1 ↔ _
  rw [e]
  exact WordCmp.cmpi_slt_ofNat_eq_one_iff (by omega) (by omega)

/-- A chunk of the last block reads its block only at the columns inside the array. -/
theorem chunkT_congr (i : grid0.Coords) (n : BitVec 32) (x y : Vec F S32x256 .f32) (a : Acc F)
    (h : ∀ j, validV i n j = 1#1 → x j = y j) : chunkT i n x a = chunkT i n y a := by
  have hs : ∀ (u v z : Vec F S32x256 .f32), (∀ j, validV i n j = 1#1 → u j = v j) →
      select (validV i n) u z = select (validV i n) v z := by
    intro u v z huv
    funext j
    show (if validV i n j = 1#1 then u j else z j) = if validV i n j = 1#1 then v j else z j
    split
    · next hv => exact huv j hv
    · rfl
  unfold chunkT
  congr 1
  · exact hs _ _ _ fun j hj => congrArg (fun w => FloatOps.addf w _) (h j hj)
  · exact hs _ _ _ fun j hj => congrArg FloatOps.exp (h j hj)
  · exact hs _ _ _ h

/-- Two runs of steps that agree step by step agree. -/
theorem steps_congr {A : Type} {f g : ℕ → A → A} (N : ℕ) (h : ∀ n < N, ∀ a, f n a = g n a) (a : A) :
    steps f N a = steps g N a := by
  induction N with
  | zero => rfl
  | succ N ih =>
    show f N (steps f N a) = g N (steps g N a)
    rw [ih fun n hn => h n (hn.trans N.lt_succ_self), h N N.lt_succ_self]

/-- The last block counts only at the columns inside the array. -/
theorem blockT_congr {t : ℕ} (ht : t < 62) (x y : Vec F S32x16384 .f32) (a : Acc F)
    (h : ∀ j : S32x16384.Idx, 16384 * t + (j 1).val < 1000000 → x j = y j) :
    blockT (pt t) x a = blockT (pt t) y a := by
  refine steps_congr 64 (fun n hn b => chunkT_congr _ _ _ _ _ fun j hj => h _ ?_) a
  have hj' := (validV_iff ht hn j).mp hj
  have hlt : (j 1).val < 256 := (j 1).isLt
  show 16384 * t + (256 * n + (j 1).val) % 16384 < 1000000
  omega

/-- The block fetched at step `t` has all rows, and the columns that are inside the array. -/
theorem xsize_pt (t : Fin cfg0.N) : win0_0.xsize (grid0.coords t) 0 = 32
    ∧ win0_0.xsize (grid0.coords t) 1 = min 16384 (1000000 - 16384 * t.val) := by
  revert t; decide

/-- Step `t` fetches block `t` of the columns. -/
theorem index_pt (t : Fin cfg0.N) : win0_0.index t 0 = 0 ∧ win0_0.index t 1 = t.val := by
  revert t; decide

/-- The fetched block at point `t`, over any words past the array's end, agrees with the array's block inside it. -/
theorem fill_eq (X : S32x1000000.Idx → Elt F .f32) (t : Fin cfg0.N) (d : S32x16384.Idx → Elt F .f32) (j : S32x16384.Idx)
    (hj : 16384 * t.val + (j 1).val < 1000000) :
    win0_0.fill (grid0.coords t) d ((win0_0.blk t).view.read (Elt F) X) j = blkOf X t.val j := by
  have h0 : (j 0).val < 32 := (j 0).isLt
  have h1 : (j 1).val < 16384 := (j 1).isLt
  have hm : win0_0.moved (grid0.coords t) j = true := by
    rw [Pipeline.Window.moved_iff]
    intro a
    match a with
    | ⟨0, _⟩ => exact lt_of_lt_of_eq h0 (xsize_pt t).1.symm
    | ⟨1, _⟩ => exact lt_of_lt_of_eq (by show (j 1).val < _; omega) (xsize_pt t).2.symm
  unfold Pipeline.Window.fill
  rw [dif_pos hm]
  show X ((win0_0.rect t).emb _) = X _
  refine congrArg X (funext fun a => Fin.ext ?_)
  match a with
  | ⟨0, _⟩ =>
    refine (win0_0.rect_emb_val t _ _).trans ?_
    show win0_0.index t 0 * _ + (j 0).val = (j 0).val
    rw [(index_pt t).1]; omega
  | ⟨1, _⟩ =>
    refine (win0_0.rect_emb_val t _ _).trans ?_
    show win0_0.index t 1 * 16384 + (j 1).val = (16384 * t.val + (j 1).val) % 1000000
    rw [(index_pt t).2]; omega

/-! ## The proof data -/

variable (m : (ℓ : Loc nD τ sig) → Buf (Elt F) ℓ) (ρ : Dev nD → PrngReg)

/-- The logits on core `c`. -/
def logits (c : Dev nD) : S32x1000000.Idx → Elt F .f32 := m ((c : Thread nD τ).loc main_arg0)

/-- The four carried buffers on core `c`, whole, at contents `a` whenever `P` holds, and at some contents otherwise. -/
def carried (c : Dev nD) (P : Prop) (a : Acc F) : sProp 𝕄G :=
  iprop(∃ Y5 Y6 Y7 Y8, (((c : Thread nD τ).loc cc0_scratch0) ↦{fullShare} Y5)
    ∗ (((c : Thread nD τ).loc cc0_scratch1) ↦{fullShare} Y6) ∗ (((c : Thread nD τ).loc cc0_scratch2) ↦{fullShare} Y7)
    ∗ (((c : Thread nD τ).loc cc0_scratch3) ↦{fullShare} Y8)
    ∗ ⌜P → readAcc (Memref.whole cc0_scratch0) (Memref.whole cc0_scratch1) (Memref.whole cc0_scratch2) (Memref.whole cc0_scratch3)
        Y5 Y6 Y7 Y8 = a⌝)

/-- The proof data: before point `t` the carried buffers hold the fold of the first `t` blocks; the three
    results' buffers hold after the last point what the kernel computes from them. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) ((win0_0.blk t).view.read (Elt F) (logits m c))
    | ⟨1, _⟩ => outAct (accEnd (logits m c))
    | ⟨2, _⟩ => outPi (accEnd (logits m c))
    | ⟨3, _⟩ => outEnt (accEnd (logits m c))
  Φ t := iprop(carried c (t.val ≠ 0 ∧ t.val < 62) (accAt (logits m c) t.val) ∗ ∃ r, prngReg c r)
  q _ := fullShare
  owed _ := 0

/-- Before a step the input's buffer holds the fetched block. -/
theorem before_0 (c : Dev nD) (t : Fin cfg0.N) (d) :
    (dats m 0 c).before (0 : Fin 4) t d = win0_0.fill (grid0.coords t) d ((win0_0.blk t).view.read (Elt F) (logits m c)) := by
  unfold Dat.before; rw [if_pos (fetch0_0 t)]; rfl

/-- A step before the last folds in the array's block, whatever the buffer held. -/
theorem blockV_fill (c : Dev nD) (t : Fin cfg0.N) (ht : t.val ≠ 61) (d) (a : Acc F) :
    blockV (grid0.coords t) (win0_0.fill (grid0.coords t) d ((win0_0.blk t).view.read (Elt F) (logits m c))) a
      = blockV (pt t.val) (blkOf (logits m c) t.val) a := by
  have hN : t.val < 62 := t.isLt
  refine (congrArg (fun i => blockV i _ a) (coords_eq t)).trans (congrArg (fun x => blockV (pt t.val) x a) ?_)
  funext j
  have h1 : (j 1).val < 16384 := (j 1).isLt
  exact fill_eq _ t d j (by omega)

/-- The last step folds in the array's block, whatever the buffer held past the array's end. -/
theorem blockT_fill (c : Dev nD) (t : Fin cfg0.N) (ht : t.val = 61) (d) (a : Acc F) :
    blockT (grid0.coords t) (win0_0.fill (grid0.coords t) d ((win0_0.blk t).view.read (Elt F) (logits m c))) a
      = blockT (pt 61) (blkOf (logits m c) 61) a := by
  have e := blockT_congr (t := t.val) t.isLt _ _ a fun j hj => fill_eq (logits m c) t d j hj
  rw [ht] at e
  exact (congrArg (fun i => blockT i _ a) ((coords_eq t).trans (congrArg pt ht))).trans e

/-- A triple used under a continuation. -/
theorem wp_use {𝒱₀ : Variants} {c : Dev nD} (p : Prog (TpuEff nD τ sig (Elt F) Λ₀ .tc) PUnit) {P Q K : sProp 𝕄G}
    (h : P ⊢ wp Idealize.ShloMosaic.frame (wpE (defs₀ (F := F)) 𝒱₀ (c : Thread nD τ) none) Set.univ p fun _ => Q) :
    iprop(P ∗ (Q -∗ K)) ⊢ wp Idealize.ShloMosaic.frame (wpE (defs₀ (F := F)) 𝒱₀ (c : Thread nD τ) none) Set.univ p fun _ => K := by
  refine BIBase.Entails.trans ?_ (wp_wand_r _ _ _ (Q := fun _ => Q))
  iintro ⟨HP, HK⟩
  isplitl [HP]
  · iapply h; iexact HP
  · iintro %_ HQ; iapply HK; iexact HQ

/-- The results' buffers are left alone, and not written back, at every point but the last, -/
theorem idle_t (t : Fin cfg0.N) (h : t.val ≠ 61) : idle0 1 (grid0.coords t) = true ∧ (win0 1).flush t = false
    ∧ idle0 2 (grid0.coords t) = true ∧ (win0 2).flush t = false ∧ idle0 3 (grid0.coords t) = true ∧ (win0 3).flush t = false := by
  have hN : t.val < 62 := t.isLt
  have h3 : (!(k0_cond3 (grid0.coords t) == 1#1)) = true := by
    have := (cond3_pt t).not.mpr h
    simpa using this
  refine ⟨h3, ?_, h3, ?_, h3, ?_⟩
  · exact Bool.eq_false_iff.mpr fun hf => by have := (flush0_1 t).mp hf; omega
  · exact Bool.eq_false_iff.mpr fun hf => by have := (flush0_2 t).mp hf; omega
  · exact Bool.eq_false_iff.mpr fun hf => by have := (flush0_3 t).mp hf; omega

/-- and written at the last. -/
theorem busy_t (t : Fin cfg0.N) (h : t.val = 61) : idle0 1 (grid0.coords t) = false
    ∧ idle0 2 (grid0.coords t) = false ∧ idle0 3 (grid0.coords t) = false := by
  have h3 : (!(k0_cond3 (grid0.coords t) == 1#1)) = false := by
    rw [(cond3_pt t).mpr h]; rfl
  exact ⟨h3, h3, h3⟩

section
variable (c : Dev nD) (𝒱₀ : Variants) (t : Fin cfg0.N)

/-- The staging buffers of point `t` and the carried buffers, at raw contents. -/
abbrev heldAt
  (X1 : BufTy.Contents (Elt F) (stage0_0 (cfg0.slots t 0)).view.ty)
  (X2 : BufTy.Contents (Elt F) (stage0_1 (cfg0.slots t 1)).view.ty)
  (X3 : BufTy.Contents (Elt F) (stage0_2 (cfg0.slots t 2)).view.ty)
  (X4 : BufTy.Contents (Elt F) (stage0_3 (cfg0.slots t 3)).view.ty)
  (Y5 : BufTy.Contents (Elt F) (Memref.whole cc0_scratch0 : Memref sig .tc _ _ _).view.ty)
  (Y6 : BufTy.Contents (Elt F) (Memref.whole cc0_scratch1 : Memref sig .tc _ _ _).view.ty)
  (Y7 : BufTy.Contents (Elt F) (Memref.whole cc0_scratch2 : Memref sig .tc _ _ _).view.ty)
  (Y8 : BufTy.Contents (Elt F) (Memref.whole cc0_scratch3 : Memref sig .tc _ _ _).view.ty) : sProp 𝕄G :=
  held c (stage0_0 (cfg0.slots t 0)) (stage0_1 (cfg0.slots t 1)) (stage0_2 (cfg0.slots t 2)) (stage0_3 (cfg0.slots t 3))
    (Memref.whole cc0_scratch0) (Memref.whole cc0_scratch1) (Memref.whole cc0_scratch2) (Memref.whole cc0_scratch3)
    X1 X2 X3 X4 Y5 Y6 Y7 Y8

/-- What the four carried buffers read. -/
abbrev readAt4
  (Y5 : BufTy.Contents (Elt F) (Memref.whole cc0_scratch0 : Memref sig .tc _ _ _).view.ty)
  (Y6 : BufTy.Contents (Elt F) (Memref.whole cc0_scratch1 : Memref sig .tc _ _ _).view.ty)
  (Y7 : BufTy.Contents (Elt F) (Memref.whole cc0_scratch2 : Memref sig .tc _ _ _).view.ty)
  (Y8 : BufTy.Contents (Elt F) (Memref.whole cc0_scratch3 : Memref sig .tc _ _ _).view.ty) : Acc F :=
  readAcc (Memref.whole cc0_scratch0) (Memref.whole cc0_scratch1) (Memref.whole cc0_scratch2) (Memref.whole cc0_scratch3) Y5 Y6 Y7 Y8

variable (X1 : BufTy.Contents (Elt F) (stage0_0 (cfg0.slots t 0)).view.ty)
  (X2 : BufTy.Contents (Elt F) (stage0_1 (cfg0.slots t 1)).view.ty)
  (X3 : BufTy.Contents (Elt F) (stage0_2 (cfg0.slots t 2)).view.ty)
  (X4 : BufTy.Contents (Elt F) (stage0_3 (cfg0.slots t 3)).view.ty)
  (Y5 : BufTy.Contents (Elt F) (Memref.whole cc0_scratch0 : Memref sig .tc _ _ _).view.ty)
  (Y6 : BufTy.Contents (Elt F) (Memref.whole cc0_scratch1 : Memref sig .tc _ _ _).view.ty)
  (Y7 : BufTy.Contents (Elt F) (Memref.whole cc0_scratch2 : Memref sig .tc _ _ _).view.ty)
  (Y8 : BufTy.Contents (Elt F) (Memref.whole cc0_scratch3 : Memref sig .tc _ _ _).view.ty)

/-- The last step writes the three results of the accumulators it ends with. -/
theorem step_last (h61 : t.val = 61) :
    (heldAt (F := F) c t X1 X2 X3 X4 Y5 Y6 Y7 Y8) ⊢
      wp Idealize.ShloMosaic.frame (wpE (defs₀ (F := F)) 𝒱₀ (c : Thread nD τ) none) Set.univ (defs₀ Proc.tc 0 (t, cfg0.slots t)) fun _ =>
        iprop(∃ Y2 Y3 Y4, heldAt c t X1 Y2 Y3 Y4 Y5 Y6 Y7 Y8
          ∗ ⌜(stage0_1 (cfg0.slots t 1)).view.read (Elt F) Y2
                = outAct (blockT (grid0.coords t) ((stage0_0 (cfg0.slots t 0)).view.read (Elt F) X1) (readAt4 Y5 Y6 Y7 Y8))
            ∧ (stage0_2 (cfg0.slots t 2)).view.read (Elt F) Y3
                = outPi (blockT (grid0.coords t) ((stage0_0 (cfg0.slots t 0)).view.read (Elt F) X1) (readAt4 Y5 Y6 Y7 Y8))
            ∧ (stage0_3 (cfg0.slots t 3)).view.read (Elt F) Y4
                = outEnt (blockT (grid0.coords t) ((stage0_0 (cfg0.slots t 0)).view.read (Elt F) X1) (readAt4 Y5 Y6 Y7 Y8))⌝) :=
  run_last 𝒱₀ c none Set.univ (grid0.coords t) _ (Facts₀.hstage0_0 (cfg0.slots t 0)) _ (Facts₀.hstage0_1 (cfg0.slots t 1)) _ (Facts₀.hstage0_2 (cfg0.slots t 2))
      _ (Facts₀.hstage0_3 (cfg0.slots t 3)) (Memref.whole cc0_scratch0) (Memref.isWhole_whole _) (Memref.whole cc0_scratch1) (Memref.isWhole_whole _)
      (Memref.whole cc0_scratch2) (Memref.isWhole_whole _) (Memref.whole cc0_scratch3) (Memref.isWhole_whole _)
      X1 X2 X3 X4 Y5 Y6 Y7 Y8 (by rw [coords_val]; omega) (by rw [cond2_pt]; omega) ((cond3_pt t).mpr h61)

/-- A step before the last folds its block into the accumulators, the first one from the initial ones. -/
theorem step_full (h61 : t.val ≠ 61) :
    (heldAt (F := F) c t X1 X2 X3 X4 Y5 Y6 Y7 Y8) ⊢
      wp Idealize.ShloMosaic.frame (wpE (defs₀ (F := F)) 𝒱₀ (c : Thread nD τ) none) Set.univ (defs₀ Proc.tc 0 (t, cfg0.slots t)) fun _ =>
        iprop(∃ Z5 Z6 Z7 Z8, heldAt c t X1 X2 X3 X4 Z5 Z6 Z7 Z8
          ∗ ⌜readAt4 Z5 Z6 Z7 Z8 = blockV (grid0.coords t) ((stage0_0 (cfg0.slots t 0)).view.read (Elt F) X1)
              (if t.val = 0 then accInit else readAt4 Y5 Y6 Y7 Y8)⌝) := by
  by_cases h0 : t.val = 0
  · rw [if_pos h0]
    exact run_first 𝒱₀ c none Set.univ (grid0.coords t) _ (Facts₀.hstage0_0 (cfg0.slots t 0)) _ (Facts₀.hstage0_1 (cfg0.slots t 1)) _ (Facts₀.hstage0_2 (cfg0.slots t 2))
      _ (Facts₀.hstage0_3 (cfg0.slots t 3)) (Memref.whole cc0_scratch0) (Memref.isWhole_whole _) (Memref.whole cc0_scratch1) (Memref.isWhole_whole _)
      (Memref.whole cc0_scratch2) (Memref.isWhole_whole _) (Memref.whole cc0_scratch3) (Memref.isWhole_whole _)
      X1 X2 X3 X4 Y5 Y6 Y7 Y8 (by rw [coords_val]; omega) (by rw [cond2_pt]; omega) (by rw [cond3_pt]; exact h61)
  · rw [if_neg h0]
    exact run_mid 𝒱₀ c none Set.univ (grid0.coords t) _ (Facts₀.hstage0_0 (cfg0.slots t 0)) _ (Facts₀.hstage0_1 (cfg0.slots t 1)) _ (Facts₀.hstage0_2 (cfg0.slots t 2))
      _ (Facts₀.hstage0_3 (cfg0.slots t 3)) (Memref.whole cc0_scratch0) (Memref.isWhole_whole _) (Memref.whole cc0_scratch1) (Memref.isWhole_whole _)
      (Memref.whole cc0_scratch2) (Memref.isWhole_whole _) (Memref.whole cc0_scratch3) (Memref.isWhole_whole _)
      X1 X2 X3 X4 Y5 Y6 Y7 Y8 (by rw [coords_val]; omega) (by rw [cond2_pt]; omega) (by rw [cond3_pt]; exact h61)

end

/-- A choice at a flag that is false. -/
theorem post_busy {b f : Bool} (hb : b = false) {A B C : sProp 𝕄G} :
    C ⊢ (match (generalizing := false) b with | true => (match (generalizing := false) f with | false => A | true => B) | false => C) := by
  subst hb; exact BIBase.Entails.rfl

set_option maxHeartbeats 1000000 in
/-- The body at point `t` keeps the proof data. -/
theorem body_obligation (c : Dev nD) (𝒱₀ : Variants) :
    BodyObligationLoose (dats m 0 c) (defs₀ (F := F)) 𝒱₀ () Set.univ := by
  intro t
  rw [bigSep_W0, bigSep_W0]
  simp only
  have hN : t.val < 62 := t.isLt
  have hcut : ∀ d, win0_0.fill (grid0.coords t) d (win0_0.cut (grid0.coords t) ((dats m 0 c).after 0 t))
      = win0_0.fill (grid0.coords t) d ((win0_0.blk t).view.read (Elt F) (logits m c)) := fun d =>
    congrArg (win0_0.fill (grid0.coords t) d) (win0_0.cut_fill _ _ _)
  rw [show (dats m 0 c).owesAt () t.succ = (dats m 0 c).owesAt () t.castSucc from rfl]
  change iprop((carried c (t.val ≠ 0 ∧ t.val < 62) (accAt (logits m c) t.val) ∗ ∃ r, prngReg c r) ∗ _) ⊢ _
  rw [show (dats m 0 c).Φ t.succ = iprop(carried c (t.val + 1 ≠ 0 ∧ t.val + 1 < 62) (accAt (logits m c) (t.val + 1)) ∗ ∃ r, prngReg c r) from rfl]
  unfold owns carried
  by_cases h61 : t.val = 61
  · iintro ⟨⟨⟨%Y5, %Y6, %Y7, %Y8, H5, H6, H7, H8, %hY⟩, Hr⟩, Ho, ⟨%d1, %X1, %e1, H1⟩, ⟨%d2, %X2, %e2, H2⟩, ⟨%d3, %X3, %e3, H3⟩,
      ⟨%d4, %X4, %e4, H4⟩⟩
    rw [before_0] at e1
    have hY' : readAt4 Y5 Y6 Y7 Y8 = accAt (logits m c) 61 := (hY ⟨by omega, hN⟩).trans (congrArg _ h61)
    iapply (wp_use _ (step_last c 𝒱₀ t X1 X2 X3 X4 Y5 Y6 Y7 Y8 h61))
    unfold heldAt held
    isplitl [H1 H2 H3 H4 H5 H6 H7 H8]
    · simp only [Memref.view_whole, View.set_whole]
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    rw [e1, hY', blockT_fill m c t h61]
    simp only [Memref.view_whole, View.set_whole]
    iintro ⟨%Z2, %Z3, %Z4, ⟨H1, H2, H3, H4, H5, H6, H7, H8⟩, %hZ⟩
    isplitl [Hr H5 H6 H7 H8]
    · isplitr [Hr]
      · iexists Y5, Y6, Y7, Y8
        isplitl [H5]; · iexact H5
        isplitl [H6]; · iexact H6
        isplitl [H7]; · iexact H7
        isplitl [H8]; · iexact H8
        ipureintro; intro h; omega
      · iexact Hr
    isplitl [Ho]; · iexact Ho
    isplitl [H1]
    · iexists d1, X1
      isplitr [H1]
      · ipureintro; exact e1.trans (hcut d1).symm
      · iexact H1
    isplitl [H2]
    · iapply (post_busy (busy_t t h61).1)
      iexists Z2
      isplitr [H2]
      · ipureintro; exact hZ.1
      · iexact H2
    isplitl [H3]
    · iapply (post_busy (busy_t t h61).2.1)
      iexists Z3
      isplitr [H3]
      · ipureintro; exact hZ.2.1
      · iexact H3
    · iapply (post_busy (busy_t t h61).2.2)
      iexists Z4
      isplitr [H4]
      · ipureintro; exact hZ.2.2
      · iexact H4
  · obtain ⟨i1, f1, i2, f2, i3, f3⟩ := idle_t t h61
    split
    case h_2 hb => exact absurd (i1.symm.trans hb) (by decide)
    split
    case h_2 hb => exact absurd (f1.symm.trans hb) (by decide)
    split
    case h_2 hb => exact absurd (i2.symm.trans hb) (by decide)
    split
    case h_2 hb => exact absurd (f2.symm.trans hb) (by decide)
    split
    case h_2 hb => exact absurd (i3.symm.trans hb) (by decide)
    split
    case h_2 hb => exact absurd (f3.symm.trans hb) (by decide)
    iintro ⟨⟨⟨%Y5, %Y6, %Y7, %Y8, H5, H6, H7, H8, %hY⟩, Hr⟩, Ho, ⟨%d1, %X1, %e1, H1⟩, ⟨%d2, %X2, %e2, H2⟩, ⟨%d3, %X3, %e3, H3⟩,
      ⟨%d4, %X4, %e4, H4⟩⟩
    rw [before_0] at e1
    iapply (wp_use _ (step_full c 𝒱₀ t X1 X2 X3 X4 Y5 Y6 Y7 Y8 h61))
    unfold heldAt held
    isplitl [H1 H2 H3 H4 H5 H6 H7 H8]
    · simp only [Memref.view_whole, View.set_whole]
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    rw [e1, blockV_fill m c t h61]
    have hacc : (if t.val = 0 then accInit else readAt4 Y5 Y6 Y7 Y8) = accAt (logits m c) t.val := by
      by_cases h0 : t.val = 0
      · rw [if_pos h0, h0]; rfl
      · rw [if_neg h0]; exact hY ⟨h0, hN⟩
    rw [hacc]
    simp only [Memref.view_whole, View.set_whole]
    iintro ⟨%Z5, %Z6, %Z7, %Z8, ⟨H1, H2, H3, H4, H5, H6, H7, H8⟩, %hZ⟩
    isplitl [Hr H5 H6 H7 H8]
    · isplitr [Hr]
      · iexists Z5, Z6, Z7, Z8
        isplitl [H5]; · iexact H5
        isplitl [H6]; · iexact H6
        isplitl [H7]; · iexact H7
        isplitl [H8]; · iexact H8
        ipureintro; intro _; exact hZ
      · iexact Hr
    isplitl [Ho]; · iexact Ho
    isplitl [H1]
    · iexists d1, X1
      isplitr [H1]
      · ipureintro; exact e1.trans (hcut d1).symm
      · iexact H1
    isplitl [H2]
    · iexists d2, X2
      isplitr [H2]
      · ipureintro; exact e2
      · iexact H2
    isplitl [H3]
    · iexists d3, X3
      isplitr [H3]
      · ipureintro; exact e3
      · iexact H3
    · iexists d4, X4
      isplitr [H4]
      · ipureintro; exact e4
      · iexact H4

end Cert.Proof.KI
-- ==== Proof.Launch.lean ====
module

public import proofs.«01_k».proof.Proof.Dats
public import proofs.«01_k».proof.Proof.Gen.KernelIdeal.Frame
public import proofs.«01_k».proof.Proof.Gen.KernelIdeal.Points
public import Idealize.ShloMosaic.Lib.Pipeline.FrameSuffix
public import Idealize.ShloMosaic.Lib.Pipeline.TableIdle

@[expose] public section

set_option maxRecDepth 8192

noncomputable section

namespace Cert.Proof.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Cert.KernelIdeal Cert.KernelIdeal.Gen Cert.KernelIdeal.Facts₀ Cert.KernelIdeal.Facts

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-! ## The launch -/

/-- What the launch starts from. -/
theorem hin (c : Dev nD) : Pipeline.ΦA spec0 c ⊢ (dats m 0 c).Φ 0 := by
  dsimp only [dats]
  unfold Pipeline.ΦA carried
  rw [scopedRest0_eq]
  iintro ⟨⟨⟨%Y5, H5⟩, ⟨%Y6, H6⟩, ⟨%Y7, H7⟩, ⟨%Y8, H8⟩⟩, Hr⟩
  isplitr [Hr]
  · iexists Y5, Y6, Y7, Y8
    isplitl [H5]; · iexact H5
    isplitl [H6]; · iexact H6
    isplitl [H7]; · iexact H7
    isplitl [H8]; · iexact H8
    ipureintro; intro h; exact absurd rfl h.1
  · iexact Hr

/-- What the launch leaves. -/
theorem hout (c : Dev nD) : (dats m 0 c).Φ (Fin.last cfg0.N) ⊢ Pipeline.ΦA spec0 c := by
  dsimp only [dats]
  unfold Pipeline.ΦA carried
  rw [scopedRest0_eq]
  iintro ⟨⟨%Y5, %Y6, %Y7, %Y8, H5, H6, H7, H8, -⟩, Hr⟩
  isplitr [Hr]
  · isplitl [H5]; · iexists Y5; iexact H5
    isplitl [H6]; · iexists Y6; iexact H6
    isplitl [H7]; · iexists Y7; iexact H7
    iexists Y8; iexact H8
  · iexact Hr

/-- The whole run: the four arrays of the pipeline end at what the proof data gives, the host lines run on those, and every
    semaphore is back at zero. -/
theorem run_main : θ_run (defs (F := F)) (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => body_obligation m c Variants.none) (fun c => (dats m 0 c).share_full fun _ => rfl) (fun _ _ => rfl)
    (V0 m) [hostOps1] sfx_sub sfx_fresh sfx_keeps (hmain m Variants.none) (fun _ _ => rfl) (hin m) (hout m)
    (fun r => Pipeline.FramePost cfgs (dats m) 0 (Pipeline.afterTail₀ cfgs (dats m) 0 (V0 m) [hostOps1]) r ∧ r.2.sem = fun _ => 0)
    (fun _ h => h)

end Cert.Proof.KI
-- ==== Proof.Frames.lean ====
module

public import proofs.«01_k».proof.Defs
public import proofs.«01_k».proof.Proof.Launch
public import proofs.«01_k».proof.Proof.Gen.Kernel

@[expose] public section

set_option maxRecDepth 8192

noncomputable section

namespace Cert.Proof

open Idealize.ShloMosaic Idealize.ShloMosaic.TcCoe
open Idealize.SL.Sem

/-- The kernel leaves its argument alone and ends with every semaphore at zero, whatever the floats are. -/
theorem frameAny {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0) :=
  (θ_run _ _ _).mono (fun _ h => ⟨fun c => ((h.1 c).1 0).trans ((KI.dats m 0 c).arrAt_in 0 rfl _), h.2⟩) (KI.run_main m g)

/-- The kernel's ideal form runs, leaves its argument alone and ends with every semaphore at zero. -/
theorem frame_PI : Cert.quiescent_KernelIdeal := fun m g _ => frameAny m g

/-! The kernel as printed and its idealization are one text, printed twice: each definition of the one is the other's. -/

/-- The two printings have the same bodies. -/
theorem defs₀_eq : (Cert.Kernel.defs₀ (F := Bits)) = Cert.KernelIdeal.defs₀ (F := Bits) := by
  unfold Cert.Kernel.defs₀ Cert.KernelIdeal.defs₀
  refine congrArg (Defs.onTc (τ := Cert.Kernel.τ)) ?_
  funext l a
  match l with
  | 0 => rfl

/-- The two printings have the same definitions. -/
theorem defs_eq : (Cert.Kernel.defs (F := Bits)) = Cert.KernelIdeal.defs (F := Bits) := by
  unfold Cert.Kernel.defs Cert.KernelIdeal.defs
  exact congrArg (Pipeline.defs (Cert.Kernel.pcfgs (F := Bits))) defs₀_eq

/-- The two printings have the same host program. -/
theorem main_eq : (Cert.Kernel.main (F := Bits)) = Cert.KernelIdeal.main (F := Bits) := by
  funext c
  rfl

/-- The kernel runs, leaves its argument alone and ends with every semaphore at zero. -/
theorem frame_P : Cert.quiescent_Kernel := fun m g _ => by
  rw [defs_eq, main_eq]
  exact frameAny (F := Bits) m g

end Cert.Proof
-- ==== Proof.RefRun.lean ====
module

public import proofs.«01_k».proof.Defs
public import proofs.«01_k».proof.Proof.Gen.ReferenceIdeal
public import Idealize.ShloMosaic.Lib.StableHlo.RunHlo
public import Idealize.ShloMosaic.Lib.Claim
public import Idealize.ShloMosaic.Lib.Quiescent

@[expose] public section

set_option maxRecDepth 8192

noncomputable section

namespace Cert.Proof

open Idealize.ShloMosaic Idealize.ShloMosaic.TcCoe
open Idealize.SL.Sem

/-- The reference leaves its argument alone and ends with every semaphore at zero. -/
theorem frame_R : Cert.quiescent_ReferenceIdeal := by
  intro m g _
  refine (θ_run _ _ _).mono (fun r h => ⟨h, Idealize.ShloMosaic.sem_eq_zero_of_no_sems (by decide) r.2⟩) (?_ : θ_run _ _ _ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)))
  hlo_run

end Cert.Proof
-- ==== Proof.KRun.lean ====
module

public import proofs.«01_k».proof.Proof.Launch
public import Idealize.ShloMosaic.Lib.Claim
public import Idealize.ShloMosaic.Lib.Pipeline.ValueKit

@[expose] public section

set_option maxRecDepth 8192

noncomputable section

namespace Cert.Proof.KI

open Idealize.ShloMosaic Idealize.ShloMosaic.TcCoe Idealize.ShloMosaic.Tactic
open Idealize.SL.Sem
open Cert.KernelIdeal Cert.KernelIdeal.Gen Cert.KernelIdeal.Facts₀ Cert.KernelIdeal.Facts

variable {F : FTy → Type} [FloatOps F] (m : (ℓ : Loc nD τ sig) → Buf (Elt F) ℓ)

/-- A result's block is its whole array, at every point. -/
theorem index_out (t : Fin cfg0.N) : (∀ a, win0_1.index t a = 0) ∧ (∀ a, win0_2.index t a = 0) ∧ ∀ a, win0_3.index t a = 0 := by
  revert t; decide

/-- The first result's array at the end of the pipeline. -/
theorem arr_1 (c : Dev nD) : (dats m 0 c).arrAt 1 cfg0.N = outAct (accEnd (logits m c)) := by
  refine (dats m 0 c).arrAt_eq_of_covers 1 _ (by decide +kernel) fun t hf y => ?_
  blk_simp
  refine congrArg (outAct (accEnd (logits m c))) (funext fun a => Fin.ext ?_)
  refine Eq.trans ?_ (win0_1.rect_emb_val t y a).symm
  rw [(index_out t).1 a, Nat.zero_mul, Nat.zero_add]

/-- The second result's array at the end of the pipeline. -/
theorem arr_2 (c : Dev nD) : (dats m 0 c).arrAt 2 cfg0.N = outPi (accEnd (logits m c)) := by
  refine (dats m 0 c).arrAt_eq_of_covers 2 _ (by decide +kernel) fun t hf y => ?_
  blk_simp
  refine congrArg (outPi (accEnd (logits m c))) (funext fun a => Fin.ext ?_)
  refine Eq.trans ?_ (win0_2.rect_emb_val t y a).symm
  rw [(index_out t).2.1 a, Nat.zero_mul, Nat.zero_add]

/-- The third result's array at the end of the pipeline. -/
theorem arr_3 (c : Dev nD) : (dats m 0 c).arrAt 3 cfg0.N = outEnt (accEnd (logits m c)) := by
  refine (dats m 0 c).arrAt_eq_of_covers 3 _ (by decide +kernel) fun t hf y => ?_
  blk_simp
  refine congrArg (outEnt (accEnd (logits m c))) (funext fun a => Fin.ext ?_)
  refine Eq.trans ?_ (win0_3.rect_emb_val t y a).symm
  rw [(index_out t).2.2 a, Nat.zero_mul, Nat.zero_add]

/-- The kernel's run and its three results. -/
theorem run_K (g : Dev nD → PrngReg) : θ_run (defs (F := F)) (onTc (τ := τ) (main (F := F))) ⟨m, fun _ => 0, g⟩ (fun r => ∀ c : Dev nD,
      r.2.mem ((c.tc : Thread nD τ).loc main_v0_0) = shapeCast S32 (outAct (accEnd (logits m c))) Facts₀.shapeCasts_S32x1_S32 ∧
      r.2.mem ((c.tc : Thread nD τ).loc main_v0_1) = shapeCast S32 (outPi (accEnd (logits m c))) Facts₀.shapeCasts_S32x1_S32 ∧
      r.2.mem ((c.tc : Thread nD τ).loc main_v0_2) = shapeCast S32 (outEnt (accEnd (logits m c))) Facts₀.shapeCasts_S32x1_S32 ∧
      r.2.mem ((c.tc : Thread nD τ).loc main_arg0) = m ((c.tc : Thread nD τ).loc main_arg0)) := by
  refine (θ_run _ _ _).mono (fun r h c => ?_) (KI.run_main m g)
  have hr := (h.1 c).2
  refine ⟨(hr main_v0_0 (by decide)).trans ?_, (hr main_v0_1 (by decide)).trans ?_, (hr main_v0_2 (by decide)).trans ?_,
    ((h.1 c).1 0).trans ((KI.dats m 0 c).arrAt_in 0 rfl _)⟩
  all_goals
    change StableHlo.after hostOps1 _ _ = _
    unfold hostOps1
    after_results
  · exact congrArg (fun z => shapeCast S32 z Facts₀.shapeCasts_S32x1_S32) ((Pipeline.withArrays_arr spec0 launch0.win.arr_inj c _ _ 1).trans (arr_1 m c))
  · exact congrArg (fun z => shapeCast S32 z Facts₀.shapeCasts_S32x1_S32) ((Pipeline.withArrays_arr spec0 launch0.win.arr_inj c _ _ 2).trans (arr_2 m c))
  · exact congrArg (fun z => shapeCast S32 z Facts₀.shapeCasts_S32x1_S32) ((Pipeline.withArrays_arr spec0 launch0.win.arr_inj c _ _ 3).trans (arr_3 m c))

end Cert.Proof.KI
-- ==== Proof.RefSpec.lean ====
module

public import proofs.«01_k».proof.Proof.Gen.ReferenceIdeal

@[expose] public section

noncomputable section

namespace Cert.Proof.RI

open Idealize.ShloMosaic Cert.ReferenceIdeal Cert.ReferenceIdeal.Facts₀ Cert.ReferenceIdeal.Facts

attribute [local instance] Cert.ReferenceIdeal.Gen.facts

variable {F : FTy → Type} [FloatOps F]

/-! # The reference's results as functions of its argument -/

/-- The whole array holding one value. -/
def fill {α : Type} (x : S_.Idx → α) : S32x1000000.Idx → α := broadcastInDim S32x1000000 ![] bcast_S_S32x1000000 x

/-- Rotate every word left by `a`, the way the host operations write it: `b` is `32 - a`. -/
def rotR (x : IVec S32x1000000 32) (a b : BitVec 32) : IVec S32x1000000 32 :=
  ori (Host.shli x (fill (constantI S_ 32 a))) (Host.shrui x (fill (constantI S_ 32 b)))

/-- One round of the generator on a pair of words. -/
def mixR (p : IVec S32x1000000 32 × IVec S32x1000000 32) (a b : BitVec 32) : IVec S32x1000000 32 × IVec S32x1000000 32 :=
  (addi p.1 p.2, xori (addi p.1 p.2) (rotR p.2 a b))

/-- The key words and the round number added after a group of four rounds. -/
def injR (p : IVec S32x1000000 32 × IVec S32x1000000 32) (a b : IVec S_ 32) (n : BitVec 32) :
    IVec S32x1000000 32 × IVec S32x1000000 32 :=
  (addi p.1 (fill a), addi (addi p.2 (fill b)) (fill (constantI S_ 32 n)))

/-- The first kind of group of four rounds. -/
def groupA (p : IVec S32x1000000 32 × IVec S32x1000000 32) : IVec S32x1000000 32 × IVec S32x1000000 32 :=
  mixR (mixR (mixR (mixR p 13#32 19#32) 15#32 17#32) 26#32 6#32) 6#32 26#32

/-- The second kind of group of four rounds. -/
def groupB (p : IVec S32x1000000 32 × IVec S32x1000000 32) : IVec S32x1000000 32 × IVec S32x1000000 32 :=
  mixR (mixR (mixR (mixR p 17#32 15#32) 29#32 3#32) 16#32 16#32) 24#32 8#32

/-- The third key word. -/
def key2 (k0 k1 : IVec S_ 32) : IVec S_ 32 := xori (xori k0 k1) (constantI S_ 32 466688986#32)

/-- The generator on a pair of counter words, under the key `k0, k1`. -/
def tfR (k0 k1 : IVec S_ 32) (p : IVec S32x1000000 32 × IVec S32x1000000 32) :
    IVec S32x1000000 32 × IVec S32x1000000 32 :=
  injR (groupA (injR (groupB (injR (groupA (injR (groupB (injR (groupA (addi p.1 (fill k0), addi p.2 (fill k1)))
    k1 (key2 k0 k1) 1#32)) (key2 k0 k1) k0 2#32)) k0 k1 3#32)) k1 (key2 k0 k1) 4#32)) (key2 k0 k1) k0 5#32

/-- The two words of the key `1`. -/
def keys : IVec S2 32 :=
  concatenate S2 0 [⟨S1, broadcastInDim S1 ![] bcast_S_S1 (Host.shrui (constantI S_ 32 1#32) (constantI S_ 32 32#32))⟩,
    ⟨S1, broadcastInDim S1 ![] bcast_S_S1 (andi (constantI S_ 32 1#32) (constantI S_ 32 4294967295#32))⟩] concatenates_S1_S1_S2_d0

/-- The first key word. -/
def keyHi : IVec S_ 32 := shapeCast S_ (extractStridedSlice S1 ![0] keys slices_S2_S1_0) shapeCasts_S1_S_

/-- The second key word. -/
def keyLo : IVec S_ 32 := shapeCast S_ (extractStridedSlice S1 ![1] keys slices_S2_S1_1) shapeCasts_S1_S_

/-- The flat position of every entry, in 64 bits. -/
def flat64 : IVec S32x1000000 64 :=
  addi (muli (fill (constantI S_ 64 1000000#64)) (iotaInDim S32x1000000 64 0))
    (muli (fill (constantI S_ 64 1#64)) (iotaInDim S32x1000000 64 1))

/-- The counter of every entry: the high and the low word of its flat position. -/
def countR : IVec S32x1000000 32 × IVec S32x1000000 32 :=
  (trunci 32 (Host.shrui flat64 (fill (constantI S_ 64 32#64))) natLt_32_64, trunci 32 flat64 natLt_32_64)

/-- The random word of every entry. -/
def wordR : IVec S32x1000000 32 := xori (tfR keyHi keyLo countR).1 (tfR keyHi keyLo countR).2

/-- One value in a 1-by-1 array. -/
def one11 (b : BitVec 32) : FVec F S1x1 .f32 := broadcastInDim S1x1 ![] bcast_S_S1x1 (constant S_ .f32 b)

/-- One value in a 1-by-1 array, copied to every entry. -/
def fill11 (x : FVec F S1x1 .f32) : FVec F S32x1000000 .f32 :=
  broadcastInDim S32x1000000 ![0, 1] bcast_S1x1_S32x1000000_0_1 x

/-- The uniform numbers in `[lo, hi)` made of random words. -/
def uniR (lo hi : FVec F S1x1 .f32) (w : IVec S32x1000000 32) : FVec F S32x1000000 .f32 :=
  maximumf (fill11 lo)
    (addf (mulf (subf (bitcastToFloat .f32 (ori (Host.shrui w (fill (constantI S_ 32 9#32))) (fill (constantI S_ 32 1065353216#32))))
        (fill (constant S_ .f32 0x3F800000#32)))
      (fill11 (subf hi lo)))
      (fill11 lo))

/-- The Gumbel noise made of random words. -/
def gumR (lo hi : FVec F S1x1 .f32) (w : IVec S32x1000000 32) : FVec F S32x1000000 .f32 :=
  Host.negf (Host.log (Host.negf (Host.log (maximumf (uniR lo hi w) (fill (constant S_ .f32 0x1E3CE508#32))))))

/-- The scores whose maximum picks the action: logits `x` plus noise `g`. -/
def scoreR (g x : FVec F S32x1000000 .f32) : FVec F S32x1000000 .f32 :=
  addf (Host.divf x (fill (constant S_ .f32 0x3F800000#32))) g

/-- The actions. -/
def actR (g x : FVec F S32x1000000 .f32) : IVec S32 32 := fun j =>
  (Host.argReduce reducer_argmax_f32_i32 (scoreR g x) (iotaInDim S32x1000000 32 1) (constant S_ .f32 0xFF800000#32)
    (constantI S_ 32 0#32) reducesTo_S32x1000000_S32_d1 h_S_ j).2

/-- One value per row, copied along the row. -/
def rows (x : FVec F S32x1 .f32) : FVec F S32x1000000 .f32 :=
  broadcastInDim S32x1000000 ![0, 1] bcast_S32x1_S32x1000000_0_1 x

/-- A column of 32 values. -/
def col {α : Type} (x : S32.Idx → α) : S32x1.Idx → α := broadcastInDim S32x1 ![0] bcast_S32_S32x1_0 x

/-- The logits less their row's maximum. -/
def shiftR (x : FVec F S32x1000000 .f32) : FVec F S32x1000000 .f32 :=
  subf x (rows (col (maximumf (broadcastInDim S32 ![] bcast_S_S32 (constant S_ .f32 0xFF800000#32))
    (Host.reduce FloatOps.maximumf x (constant S_ .f32 0xFF800000#32) reducesTo_S32x1000000_S32_d1 h_S_))))

/-- The sum of every row. -/
def rowSum (x : FVec F S32x1000000 .f32) : FVec F S32 .f32 :=
  Host.reduceAdd x (constant S_ .f32 0x00000000#32) reducesTo_S32x1000000_S32_d1 h_S_

/-- The logarithm of the softmax. -/
def logpR (x : FVec F S32x1000000 .f32) : FVec F S32x1000000 .f32 :=
  subf (shiftR x) (rows (Host.log (col (rowSum (Host.exp (shiftR x))))))

/-- A column index, wrapped once where it is negative. -/
def wrapR (i : IVec S32x1 32) : IVec S32x1x1 32 :=
  shapeCast S32x1x1 (select (cmpi .slt i (broadcastInDim S32x1 ![] bcast_S_S32x1 (constantI S_ 32 0#32)))
    (addi i (broadcastInDim S32x1 ![] bcast_S_S32x1 (constantI S_ 32 1000000#32))) i) shapeCasts_S32x1_S32x1x1

/-- Whether a column index is in bounds. -/
def boundR (i : IVec S32x1x1 32) : IVec S32x1 1 :=
  Host.reduce IntOp.andi
    (andi (cmpi .sge i (broadcastInDim S32x1x1 ![] bcast_S_S32x1x1 (constantI S_ 32 0#32)))
      (cmpi .sle i (broadcastInDim S32x1x1 ![0, 1, 2] bcast_S1x1x1_S32x1x1_0_1_2
        (broadcastInDim S1x1x1 ![2] bcast_S1_S1x1x1_2 (constantI S1 32 999999#32)))))
    (constantI S_ 1 1#1) reducesTo_S32x1x1_S32x1_d2 h_S_

/-- One entry of every row, at the column the index names. -/
def takeR (x : FVec F S32x1000000 .f32) (i : IVec S32x1 32) : FVec F S32x1 .f32 :=
  select (boundR (wrapR i)) (Host.gather gather_S32x1000000_S32x1x1_S32x1_n_1_0_0_1_2_11 x (wrapR i))
    (broadcastInDim S32x1 ![] bcast_S_S32x1 (constant S_ .f32 0x7FC00000#32))

/-- The log-probabilities of the actions. -/
def piR (g x : FVec F S32x1000000 .f32) : FVec F S32 .f32 :=
  shapeCast S32 (takeR (logpR x) (col (actR g x))) shapeCasts_S32x1_S32

/-- The entropies. -/
def entR (x : FVec F S32x1000000 .f32) : FVec F S32 .f32 :=
  Host.negf (rowSum (mulf (Host.exp (logpR x)) (logpR x)))

end Cert.Proof.RI
-- ==== Proof.Scalar.lean ====
module

public import proofs.«01_k».proof.Proof.Chunk
public import proofs.«01_k».proof.Proof.RefSpec
public import Idealize.ShloMosaic.PureOps.Ideal.Laws
public import Idealize.ShloMosaic.Lib.ValueIdx
public import Idealize.ShloMosaic.Lib.IdealHost

@[expose] public section

set_option maxRecDepth 16384

noncomputable section

namespace Cert.Proof

open Idealize.ShloMosaic

/-! # One counter word: the random word and the noise made of it -/

/-- Rotate a word left by `a`; `b` is `32 - a`. -/
def rotS (x a b : BitVec 32) : BitVec 32 := x <<< a ||| x >>> b

/-- One round of the generator. -/
def mixS (p : BitVec 32 × BitVec 32) (a b : BitVec 32) : BitVec 32 × BitVec 32 :=
  (p.1 + p.2, rotS p.2 a b ^^^ (p.1 + p.2))

/-- The words added after four rounds. -/
def injS (p : BitVec 32 × BitVec 32) (a b n : BitVec 32) : BitVec 32 × BitVec 32 := (p.1 + a, p.2 + b + n)

/-- The first kind of group of four rounds. -/
def groupAS (p : BitVec 32 × BitVec 32) : BitVec 32 × BitVec 32 :=
  mixS (mixS (mixS (mixS p 13#32 19#32) 15#32 17#32) 26#32 6#32) 6#32 26#32

/-- The second kind of group of four rounds. -/
def groupBS (p : BitVec 32 × BitVec 32) : BitVec 32 × BitVec 32 :=
  mixS (mixS (mixS (mixS p 17#32 15#32) 29#32 3#32) 16#32 16#32) 24#32 8#32

/-- The generator's two output words at counter `x - 1` under the key `0, 1`. -/
def tfPairS (x : BitVec 32) : BitVec 32 × BitVec 32 :=
  injS (groupAS (injS (groupBS (injS (groupAS (injS (groupBS (injS (groupAS (0#32, x)) 1#32 466688987#32 1#32))
    466688987#32 0#32 2#32)) 0#32 1#32 3#32)) 1#32 466688987#32 4#32)) 466688987#32 0#32 5#32

/-- The random word at counter `x - 1`. -/
def tfS (x : BitVec 32) : BitVec 32 := (tfPairS x).1 ^^^ (tfPairS x).2

/-- Two arrays of words at one position. -/
def ptOf {s : Shape} (p : IVec s 32 × IVec s 32) (i : s.Idx) : BitVec 32 × BitVec 32 := (p.1 i, p.2 i)

/-- A round of the kernel's generator at a place. -/
theorem mixV_pt {s : Shape} (p : IVec s 32 × IVec s 32) {a b : BitVec 32} (ha : a.toNat < 32) (hb : b.toNat < 32) (i : s.Idx) :
    ptOf (KI.mixV p a b) i = mixS (ptOf p i) a b := by
  have e : KI.rotV p.2 a b i = rotS (p.2 i) a b := by
    change IntOp.ori (IntOp.shli .vector (p.2 i) a) (IntOp.shrui .vector (p.2 i) b) = _
    rw [IntOp.shli, IntOp.shrui, if_pos ha, if_pos hb]; rfl
  refine Prod.ext rfl ?_
  change KI.rotV p.2 a b i ^^^ (p.1 i + p.2 i) = _
  rw [e]; rfl

/-- A round of the reference's generator at a place. -/
theorem mixR_pt (p : IVec ReferenceIdeal.S32x1000000 32 × IVec ReferenceIdeal.S32x1000000 32) {a b : BitVec 32}
    (ha : a.toNat < 32) (hb : b.toNat < 32) (i : ReferenceIdeal.S32x1000000.Idx) :
    ptOf (RI.mixR p a b) i = mixS (ptOf p i) a b := by
  have e : RI.rotR p.2 a b i = rotS (p.2 i) a b := by
    change IntOp.ori (IntOp.shli .host (p.2 i) a) (IntOp.shrui .host (p.2 i) b) = _
    rw [IntOp.shli, IntOp.shrui, if_pos ha, if_pos hb]; rfl
  refine Prod.ext rfl ?_
  change (p.1 i + p.2 i) ^^^ RI.rotR p.2 a b i = _
  rw [e, BitVec.xor_comm]; rfl

/-- The kernel's key addition at a place. -/
theorem injV_pt {s : Shape} (p : IVec s 32 × IVec s 32) (a b n : BitVec 32) (i : s.Idx) :
    ptOf (KI.injV p a b n) i = injS (ptOf p i) a b n := rfl

/-- The reference's key addition at a place. -/
theorem injR_pt (p : IVec ReferenceIdeal.S32x1000000 32 × IVec ReferenceIdeal.S32x1000000 32) (a b : IVec ReferenceIdeal.S_ 32)
    (n : BitVec 32) (i : ReferenceIdeal.S32x1000000.Idx) {a' b' : BitVec 32} (ha : a = fun _ => a') (hb : b = fun _ => b') :
    ptOf (RI.injR p a b n) i = injS (ptOf p i) a' b' n := by subst ha hb; rfl

/-- The kernel's first kind of four rounds at a place. -/
theorem fourA_pt {s : Shape} (p : IVec s 32 × IVec s 32) (i : s.Idx) : ptOf (KI.fourA p) i = groupAS (ptOf p i) := by
  unfold KI.fourA groupAS
  rw [mixV_pt _ (by decide) (by decide), mixV_pt _ (by decide) (by decide), mixV_pt _ (by decide) (by decide),
    mixV_pt _ (by decide) (by decide)]

/-- The kernel's second kind of four rounds at a place. -/
theorem fourB_pt {s : Shape} (p : IVec s 32 × IVec s 32) (i : s.Idx) : ptOf (KI.fourB p) i = groupBS (ptOf p i) := by
  unfold KI.fourB groupBS
  rw [mixV_pt _ (by decide) (by decide), mixV_pt _ (by decide) (by decide), mixV_pt _ (by decide) (by decide),
    mixV_pt _ (by decide) (by decide)]

/-- The reference's first kind of four rounds at a place. -/
theorem groupA_pt (p : IVec ReferenceIdeal.S32x1000000 32 × IVec ReferenceIdeal.S32x1000000 32) (i : ReferenceIdeal.S32x1000000.Idx) :
    ptOf (RI.groupA p) i = groupAS (ptOf p i) := by
  unfold RI.groupA groupAS
  rw [mixR_pt _ (by decide) (by decide), mixR_pt _ (by decide) (by decide), mixR_pt _ (by decide) (by decide),
    mixR_pt _ (by decide) (by decide)]

/-- The reference's second kind of four rounds at a place. -/
theorem groupB_pt (p : IVec ReferenceIdeal.S32x1000000 32 × IVec ReferenceIdeal.S32x1000000 32) (i : ReferenceIdeal.S32x1000000.Idx) :
    ptOf (RI.groupB p) i = groupBS (ptOf p i) := by
  unfold RI.groupB groupBS
  rw [mixR_pt _ (by decide) (by decide), mixR_pt _ (by decide) (by decide), mixR_pt _ (by decide) (by decide),
    mixR_pt _ (by decide) (by decide)]

/-- The kernel's first four rounds, which start from a zero word, at a place. -/
theorem fourS_pt {s : Shape} (x : IVec s 32) (i : s.Idx) : ptOf (KI.fourS x) i = groupAS (0#32, x i) := by
  have e : ptOf (x, xori (KI.rotV x 13#32 19#32) x) i = mixS (0#32, x i) 13#32 19#32 := by
    have := mixV_pt (fun _ => 0#32, x) (a := 13#32) (b := 19#32) (by decide) (by decide) i
    refine Eq.trans ?_ this
    refine Prod.ext ?_ ?_
    · change x i = 0#32 + x i
      rw [BitVec.zero_add]
    · change KI.rotV x 13#32 19#32 i ^^^ x i = KI.rotV x 13#32 19#32 i ^^^ (0#32 + x i)
      rw [BitVec.zero_add]
  unfold KI.fourS groupAS
  rw [mixV_pt _ (by decide) (by decide), mixV_pt _ (by decide) (by decide), mixV_pt _ (by decide) (by decide), e]

/-- The kernel's random word at a position depends only on the counter word there. -/
theorem tfV_apply {s : Shape} (x : IVec s 32) (i : s.Idx) : KI.tfV x i = tfS (x i) := by
  have inj : ∀ {p : IVec s 32 × IVec s 32} {q : BitVec 32 × BitVec 32} {a b n : BitVec 32}, ptOf p i = q →
      ptOf (KI.injV p a b n) i = injS q a b n := fun h => (injV_pt _ _ _ _ i).trans (congrArg (injS · _ _ _) h)
  have fourA : ∀ {p : IVec s 32 × IVec s 32} {q : BitVec 32 × BitVec 32}, ptOf p i = q →
      ptOf (KI.fourA p) i = groupAS q := fun h => (fourA_pt _ i).trans (congrArg groupAS h)
  have fourB : ∀ {p : IVec s 32 × IVec s 32} {q : BitVec 32 × BitVec 32}, ptOf p i = q →
      ptOf (KI.fourB p) i = groupBS q := fun h => (fourB_pt _ i).trans (congrArg groupBS h)
  have e : ptOf (KI.tfPair x) i = tfPairS (x i) :=
    (inj (fourA (inj (fourB (inj (fourA (inj (fourB (inj (fourS_pt x i))))))))))
  unfold KI.tfV tfS
  rw [← e]
  generalize KI.tfPair x = p
  rfl

/-- The first key word is 0. -/
theorem keyHi_eq : RI.keyHi = fun _ => 0#32 := by decide +kernel
/-- The second key word is 1. -/
theorem keyLo_eq : RI.keyLo = fun _ => 1#32 := by decide +kernel
/-- The third key word. -/
theorem key2_eq : RI.key2 RI.keyHi RI.keyLo = fun _ => 466688987#32 := by
  rw [keyHi_eq, keyLo_eq]; funext i; exact (by decide : IntOp.xori (IntOp.xori 0#32 1#32) 466688986#32 = 466688987#32)

/-- The reference's random word at a position is the generator's at that flat position. -/
theorem wordR_apply (i : ReferenceIdeal.S32x1000000.Idx) :
    RI.wordR i = tfS (BitVec.ofNat 32 (1000000 * (i 0).val + (i 1).val + 1)) := by
  have h0 : (i 0).val < 32 := (i 0).isLt
  have h1 : (i 1).val < 1000000 := (i 1).isLt
  have hf : RI.flat64 i = BitVec.ofNat 64 (1000000 * (i 0).val + (i 1).val) := by
    change 1000000#64 * BitVec.ofNat 64 (i 0).val + 1#64 * BitVec.ofNat 64 (i 1).val = _
    rw [BitVec.one_mul]
    apply BitVec.eq_of_toNat_eq
    simp [BitVec.toNat_add, BitVec.toNat_mul]
  have e0 : ptOf (addi RI.countR.1 (RI.fill RI.keyHi), addi RI.countR.2 (RI.fill RI.keyLo)) i =
      (0#32, BitVec.ofNat 32 (1000000 * (i 0).val + (i 1).val + 1)) := by
    rw [keyHi_eq, keyLo_eq]
    refine Prod.ext ?_ ?_
    · change (IntOp.shrui .host (RI.flat64 i) 32#64).truncate 32 + 0#32 = 0#32
      rw [IntOp.shrui, if_pos (by decide), hf]
      apply BitVec.eq_of_toNat_eq
      have hlt : 1000000 * (i 0).val + (i 1).val < 2 ^ 32 := by omega
      have hlt' : 1000000 * (i 0).val + (i 1).val < 2 ^ 64 := by omega
      simp only [BitVec.truncate_eq_setWidth, BitVec.add_zero, BitVec.toNat_setWidth, BitVec.ushiftRight_eq', BitVec.toNat_ushiftRight,
        BitVec.toNat_ofNat, Nat.shiftRight_eq_div_pow, Nat.mod_eq_of_lt hlt', Nat.reduceMod]
      rw [Nat.div_eq_of_lt (by simpa using hlt)]
    · change (RI.flat64 i).truncate 32 + 1#32 = _
      rw [hf]
      apply BitVec.eq_of_toNat_eq
      simp [BitVec.toNat_add]
  have e : ptOf (RI.tfR RI.keyHi RI.keyLo RI.countR) i = tfPairS (BitVec.ofNat 32 (1000000 * (i 0).val + (i 1).val + 1)) := by
    unfold RI.tfR tfPairS
    rw [injR_pt _ _ _ _ _ key2_eq keyHi_eq, groupA_pt, injR_pt _ _ _ _ _ keyLo_eq key2_eq, groupB_pt,
      injR_pt _ _ _ _ _ keyHi_eq keyLo_eq, groupA_pt, injR_pt _ _ _ _ _ key2_eq keyHi_eq, groupB_pt,
      injR_pt _ _ _ _ _ keyLo_eq key2_eq, groupA_pt, e0]
  exact congrArg (fun p : BitVec 32 × BitVec 32 => p.1 ^^^ p.2) e

/-- The number made of a random word, before the lower bound. -/
def fracS (w : BitVec 32) : EReal := Ideal.ofBits .f32 (w >>> 9#32 ||| 1065353216#32) - 1

/-- The number the logarithms are taken of. -/
def uniS (w : BitVec 32) : EReal := max (fracS w) (Ideal.ofBits .f32 0x1E3CE508#32)

/-- The noise of a random word. -/
def gumS (w : BitVec 32) : EReal := -Ideal.log (-Ideal.log (uniS w))

/-- The kernel's noise at a place. -/
theorem gumV_apply {s : Shape} (w : IVec s 32) (i : s.Idx) : KI.gumV (F := Ideal) w i = gumS (w i) := by
  change Ideal.ofBits .f32 0x00000000#32 - Ideal.log (Ideal.ofBits .f32 0x00000000#32 - Ideal.log
    (max (Ideal.ofBits .f32 (IntOp.shrui .vector (w i) 9#32 ||| 1065353216#32) - Ideal.ofBits .f32 0x3F800000#32)
      (Ideal.ofBits .f32 0x1E3CE508#32))) = _
  rw [IntOp.shrui, if_pos (by decide), Ideal.ofBits_zero_f32, Ideal.ofBits_one_f32, zero_sub, zero_sub]
  rfl

/-- The lower bound is a positive real below one. -/
theorem low_real : ∃ r : ℝ, Ideal.ofBits .f32 0x1E3CE508#32 = (r : EReal) ∧ 0 < r ∧ r < 1 := by
  refine ⟨_, by simp [Ideal.ofBits, Ideal.ieee]; rfl, ?_, ?_⟩
  · positivity
  · norm_num

/-- The number made of a random word is a real in `[0, 1)`. -/
theorem frac_real (w : BitVec 32) : ∃ r : ℝ, fracS w = (r : EReal) ∧ 0 ≤ r ∧ r < 1 := by
  have h1 : (w >>> 9#32 ||| 1065353216#32).extractLsb' 31 1 = 0#1 := by
    apply BitVec.eq_of_getLsbD_eq
    intro i hi
    obtain rfl : i = 0 := by omega
    simp
  have h2 : (w >>> 9#32 ||| 1065353216#32).extractLsb' 23 8 = 127#8 := by
    apply BitVec.eq_of_getLsbD_eq
    intro i hi
    interval_cases i <;> simp
  have h3 := ((w >>> 9#32 ||| 1065353216#32).extractLsb' 0 23).isLt
  have e : Ideal.ofBits .f32 (w >>> 9#32 ||| 1065353216#32) =
      (((2 ^ 23 + ((w >>> 9#32 ||| 1065353216#32).extractLsb' 0 23).toNat : ℝ) / 2 ^ 23 : ℝ) : EReal) := by
    change Ideal.ieee 8 23 _ = _
    rw [Ideal.ieee]
    simp only [Nat.reduceAdd, h1, h2]
    generalize (BitVec.extractLsb' 0 23 (w >>> 9#32 ||| 1065353216#32)).toNat = k
    rw [if_neg (by decide), if_neg (by decide)]
    congr 1
    push_cast
    norm_num
    ring
  generalize ((w >>> 9#32 ||| 1065353216#32).extractLsb' 0 23).toNat = k at *
  refine ⟨(2 ^ 23 + (k : ℝ)) / 2 ^ 23 - 1, ?_, ?_, ?_⟩
  · rw [fracS, e]; rfl
  · have : (0 : ℝ) ≤ k := Nat.cast_nonneg k
    rw [sub_nonneg, le_div_iff₀ (by norm_num)]; linarith
  · have : (k : ℝ) < 2 ^ 23 := by exact_mod_cast h3
    rw [sub_lt_iff_lt_add, div_lt_iff₀ (by norm_num)]; linarith

/-- The noise of a random word is a real number. -/
theorem gum_real (w : BitVec 32) : ∃ r : ℝ, gumS w = (r : EReal) := by
  obtain ⟨f, hf, hf0, hf1⟩ := frac_real w
  obtain ⟨e, he, he0, he1⟩ := low_real
  have hu : uniS w = ((max f e : ℝ) : EReal) := by rw [uniS, hf, he]; exact (EReal.coe_strictMono.monotone.map_max).symm
  have hp : 0 < max f e := lt_max_of_lt_right he0
  have hl : max f e < 1 := max_lt hf1 he1
  have hn : 0 < -Real.log (max f e) := neg_pos.mpr (Real.log_neg hp hl)
  refine ⟨-Real.log (-Real.log (max f e)), ?_⟩
  rw [gumS, hu, Ideal.log_coe, if_neg (not_le.mpr hp), ← EReal.coe_neg, Ideal.log_coe, if_neg (not_le.mpr hn), ← EReal.coe_neg]

/-- The reference's noise at a position is the noise of the random word there. -/
theorem gumR_apply (w : IVec ReferenceIdeal.S32x1000000 32) (i : ReferenceIdeal.S32x1000000.Idx) :
    RI.gumR (F := Ideal) (RI.one11 0x00000000#32) (RI.one11 0x3F800000#32) w i = gumS (w i) := by
  change -Ideal.log (-Ideal.log (max (max (Ideal.ofBits .f32 0x00000000#32)
    ((Ideal.ofBits .f32 (IntOp.shrui .host (w i) 9#32 ||| 1065353216#32) - Ideal.ofBits .f32 0x3F800000#32) *
      (Ideal.ofBits .f32 0x3F800000#32 - Ideal.ofBits .f32 0x00000000#32) + Ideal.ofBits .f32 0x00000000#32))
    (Ideal.ofBits .f32 0x1E3CE508#32))) = _
  rw [IntOp.shrui, if_pos (by decide), Ideal.ofBits_zero_f32, Ideal.ofBits_one_f32, sub_zero, mul_one, add_zero]
  change -Ideal.log (-Ideal.log (max (max 0 (fracS (w i))) (Ideal.ofBits .f32 0x1E3CE508#32))) = _
  obtain ⟨f, hf, hf0, hf1⟩ := frac_real (w i)
  rw [max_eq_right (a := 0) (b := fracS (w i)) (by rw [hf]; exact_mod_cast hf0)]
  rfl

end Cert.Proof
-- ==== Proof.KVal.lean ====
module

public import proofs.«01_k».proof.Proof.Scalar
public import proofs.«01_k».proof.Proof.Dats

@[expose] public section

set_option maxRecDepth 8192

noncomputable section

namespace Cert.Proof

open Idealize.ShloMosaic Idealize.ShloMosaic.TcCoe
open Finset

/-! ## A row's numbers -/

/-- The logits: one row for each of 32 problems. -/
abbrev Logits : Type := KernelIdeal.S32x1000000.Idx → EReal

/-- Every logit is a real number. -/
def AllReal (X : Logits) : Prop := ∀ i, ∃ v : ℝ, X i = (v : EReal)

/-- The logit of row `r` at column `c`. -/
def xr (X : Logits) (r : Fin 32) (c : ℕ) : ℝ := (X (ValueIdx.ix2 r ⟨c % 1000000, Nat.mod_lt _ (by decide)⟩)).toReal

/-- The counter word of row `r` at column `c`. -/
def wd (r : Fin 32) (c : ℕ) : BitVec 32 := BitVec.ofNat 32 (1000000 * r.val + c + 1)

/-- The noise of row `r` at column `c`. -/
def gr (r : Fin 32) (c : ℕ) : ℝ := (gumS (tfS (wd r c))).toReal

/-- The score of row `r` at column `c`; a column that does not exist scores nothing. -/
def sc (X : Logits) (r : Fin 32) (c : ℕ) : EReal := if c < 1000000 then ((xr X r c + gr r c : ℝ) : EReal) else ⊥

/-- The exponential of row `r` at column `c`. -/
def ex (X : Logits) (r : Fin 32) (c : ℕ) : ℝ := if c < 1000000 then Real.exp (xr X r c) else 0

/-- Logit times exponential, of row `r` at column `c`. -/
def mu (X : Logits) (r : Fin 32) (c : ℕ) : ℝ := if c < 1000000 then xr X r c * Real.exp (xr X r c) else 0

/-- The noise at a column is a real number. -/
theorem gr_eq (r : Fin 32) (c : ℕ) : gumS (tfS (wd r c)) = (gr r c : EReal) := by
  obtain ⟨v, hv⟩ := gum_real (tfS (wd r c))
  rw [gr, hv, EReal.toReal_coe]

/-- The logit at a column is a real number. -/
theorem xr_eq {X : Logits} (hX : AllReal X) (r : Fin 32) (c : ℕ) :
    X (ValueIdx.ix2 r ⟨c % 1000000, Nat.mod_lt _ (by decide)⟩) = (xr X r c : EReal) := by
  obtain ⟨v, hv⟩ := hX (ValueIdx.ix2 r ⟨c % 1000000, Nat.mod_lt _ (by decide)⟩)
  rw [xr, hv, EReal.toReal_coe]

/-! ## One lane of the kernel -/

/-- What lane `l` of row `r` holds once its first `K` columns are folded in. -/
structure Lane (X : Logits) (r : Fin 32) (l K : ℕ) (s t b : EReal) (w : BitVec 32) : Prop where
  sum : s = ((∑ k ∈ range K, ex X r (128 * k + l) : ℝ) : EReal)
  mix : t = ((∑ k ∈ range K, mu X r (128 * k + l) : ℝ) : EReal)
  up : ∀ k < K, sc X r (128 * k + l) ≤ b
  att : b = ⊥ ∨ ∃ k < K, 128 * k + l < 1000000 ∧ b = sc X r (128 * k + l) ∧ w = wd r (128 * k + l) ∧
    ∀ k' < k, sc X r (128 * k' + l) < b

/-- A score above another is the score of a column that exists. -/
theorem lt_of_sc {X : Logits} {r : Fin 32} {c : ℕ} {b : EReal} (h : b < sc X r c) : c < 1000000 := by
  by_contra hc
  rw [sc, if_neg hc] at h
  exact not_lt_bot h

/-- Folding the next two columns into a lane. -/
theorem Lane.step {X : Logits} {r : Fin 32} {l K : ℕ} {s t b : EReal} {w : BitVec 32} (h : Lane X r l K s t b w)
    {A B : EReal} {wA wB : BitVec 32} (hA : A = sc X r (128 * K + l)) (hB : B = sc X r (128 * (K + 1) + l))
    (hwA : wA = wd r (128 * K + l)) (hwB : wB = wd r (128 * (K + 1) + l)) :
    Lane X r l (K + 2) (s + ((ex X r (128 * K + l) : EReal) + (ex X r (128 * (K + 1) + l) : EReal)))
      (t + ((mu X r (128 * K + l) : EReal) + (mu X r (128 * (K + 1) + l) : EReal)))
      (if b < (if A < B then B else A) then (if A < B then B else A) else b)
      (if b < (if A < B then B else A) then (if A < B then wB else wA) else w) := by
  subst hA hB hwA hwB
  refine ⟨?_, ?_, ?_, ?_⟩
  · rw [h.sum, sum_range_succ, sum_range_succ, ← EReal.coe_add, ← EReal.coe_add, add_assoc]
  · rw [h.mix, sum_range_succ, sum_range_succ, ← EReal.coe_add, ← EReal.coe_add, add_assoc]
  · intro k hk
    have h3 : k < K ∨ k = K ∨ k = K + 1 := by omega
    split_ifs with h1 h2 h2 <;> rcases h3 with h3 | rfl | rfl
    all_goals first
      | exact (h.up _ h3).trans (le_of_lt ‹_›)
      | exact (h.up _ h3)
      | exact le_rfl
      | exact le_of_lt ‹_›
      | exact not_lt.mp ‹_›
      | skip
    all_goals first
      | exact (le_of_lt h1).trans (not_lt.mp h2)
      | exact (not_lt.mp h1).trans (not_lt.mp h2)
  · split_ifs with h1 h2 h2
    · refine .inr ⟨K + 1, by omega, lt_of_sc h1, rfl, rfl, fun k' hk' => ?_⟩
      rcases (by omega : k' < K ∨ k' = K) with h3 | rfl
      · exact (h.up _ h3).trans_lt h2
      · exact h1
    · rcases h.att with h3 | ⟨k, hk, h3⟩
      · exact .inl h3
      · exact .inr ⟨k, by omega, h3⟩
    · refine .inr ⟨K, by omega, lt_of_sc h2, rfl, rfl, fun k' hk' => (h.up _ hk').trans_lt h2⟩
    · rcases h.att with h3 | ⟨k, hk, h3⟩
      · exact .inl h3
      · exact .inr ⟨k, by omega, h3⟩

/-! ## Folding a chunk -/

/-- A chosen value at one place, by the comparison that chooses. -/
theorem select_gt {s : Shape} {α : Type} (a b : FVec Ideal s .f32) (x y : s.Idx → α) (i : s.Idx) :
    select (cmpf .ogt a b) x y i = if (b i : EReal) < (a i : EReal) then x i else y i := by
  change (if BitVec.ofBool (decide ((b i : EReal) < (a i : EReal))) = 1#1 then x i else y i) = _
  by_cases h : (b i : EReal) < (a i : EReal) <;> simp [h]

/-- The left half of a chunk at one place. -/
theorem loV_apply {α : Type} (x : KernelIdeal.S32x256.Idx → α) (r : Fin 32) (l : Fin 128) :
    KI.loV x (ValueIdx.ix2 r l) = x (ValueIdx.ix2 r ⟨l.val, by omega⟩) := by
  refine congrArg x (funext fun a => ?_)
  match a with
  | ⟨0, _⟩ => exact Fin.ext (Nat.zero_add _)
  | ⟨1, _⟩ => exact Fin.ext (Nat.zero_add _)

/-- The right half of a chunk at one place. -/
theorem hiV_apply {α : Type} (x : KernelIdeal.S32x256.Idx → α) (r : Fin 32) (l : Fin 128) :
    KI.hiV x (ValueIdx.ix2 r l) = x (ValueIdx.ix2 r ⟨128 + l.val, by omega⟩) := by
  refine congrArg x (funext fun a => ?_)
  match a with
  | ⟨0, _⟩ => exact Fin.ext (Nat.zero_add _)
  | ⟨1, _⟩ => rfl

/-- Every lane of the carried buffers holds what it should after its first `K` columns. -/
def Lanes (X : Logits) (K : ℕ) (a : KI.Acc Ideal) : Prop := ∀ (r : Fin 32) (l : Fin 128),
  Lane X r l.val K (a.1 (ValueIdx.ix2 r l)) (a.2.1 (ValueIdx.ix2 r l)) (a.2.2.1 (ValueIdx.ix2 r l)) (a.2.2.2 (ValueIdx.ix2 r l))

/-- Folding a chunk whose entries are those of the columns from `128 K` on. -/
theorem Lanes.fold {X : Logits} {K : ℕ} {a : KI.Acc Ideal} (h : Lanes X K a) (score e x : FVec Ideal KernelIdeal.S32x256 .f32)
    (idx : IVec KernelIdeal.S32x256 32)
    (hs : ∀ (r : Fin 32) (j : Fin 256), score (ValueIdx.ix2 r j) = sc X r (128 * K + j.val))
    (he : ∀ (r : Fin 32) (j : Fin 256), e (ValueIdx.ix2 r j) = (ex X r (128 * K + j.val) : EReal))
    (hm : ∀ (r : Fin 32) (j : Fin 256), mulf x e (ValueIdx.ix2 r j) = (mu X r (128 * K + j.val) : EReal))
    (hi : ∀ (r : Fin 32) (j : Fin 256), idx (ValueIdx.ix2 r j) = wd r (128 * K + j.val)) :
    Lanes X (K + 2) (KI.foldV score e x idx a) := by
  intro r l
  have e1 : 128 * (K + 1) + l.val = 128 * K + (128 + l.val) := by ring
  have hst := (h r l).step (A := KI.loV score (ValueIdx.ix2 r l)) (B := KI.hiV score (ValueIdx.ix2 r l))
    (wA := KI.loV idx (ValueIdx.ix2 r l)) (wB := KI.hiV idx (ValueIdx.ix2 r l))
    ((congrFun rfl _).trans ((loV_apply score r l).trans (hs _ _)))
    ((hiV_apply score r l).trans ((hs _ _).trans (by rw [e1]))) ((loV_apply idx r l).trans (hi _ _))
    ((hiV_apply idx r l).trans ((hi _ _).trans (by rw [e1])))
  have f1 : (KI.foldV score e x idx a).1 (ValueIdx.ix2 r l) = (a.1 (ValueIdx.ix2 r l) : EReal) +
      ((ex X r (128 * K + l.val) : EReal) + (ex X r (128 * (K + 1) + l.val) : EReal)) := by
    change (a.1 (ValueIdx.ix2 r l) : EReal) + ((KI.loV e (ValueIdx.ix2 r l) : EReal) + (KI.hiV e (ValueIdx.ix2 r l) : EReal)) = _
    rw [loV_apply, hiV_apply, he, he, e1]
  have f2 : (KI.foldV score e x idx a).2.1 (ValueIdx.ix2 r l) = (a.2.1 (ValueIdx.ix2 r l) : EReal) +
      ((mu X r (128 * K + l.val) : EReal) + (mu X r (128 * (K + 1) + l.val) : EReal)) := by
    change (a.2.1 (ValueIdx.ix2 r l) : EReal) + ((KI.loV (mulf x e) (ValueIdx.ix2 r l) : EReal) + (KI.hiV (mulf x e) (ValueIdx.ix2 r l) : EReal)) = _
    rw [loV_apply, hiV_apply, hm, hm, e1]
  rw [f1, f2]
  have f3 : (KI.foldV score e x idx a).2.2.1 (ValueIdx.ix2 r l) = _ := (select_gt _ _ _ _ _).trans (by rw [select_gt])
  have f4 : (KI.foldV score e x idx a).2.2.2 (ValueIdx.ix2 r l) = _ := (select_gt _ _ _ _ _).trans (by rw [select_gt, select_gt])
  rw [f3, f4]
  exact hst

end Cert.Proof
-- ==== Proof.KRow.lean ====
module

public import proofs.«01_k».proof.Proof.KVal

@[expose] public section

set_option maxRecDepth 8192

noncomputable section

namespace Cert.Proof

open Idealize.ShloMosaic Idealize.ShloMosaic.TcCoe
open Finset

/-- The word of minus infinity. -/
theorem ofBits_bot : Ideal.ofBits .f32 0xFF800000#32 = ⊥ := by
  simp [Ideal.ofBits, Ideal.ieee]

/-- A counter word in parts. -/
theorem wd_split (r : Fin 32) (c : ℕ) : wd r c = BitVec.ofNat 32 r.val * 1000000#32 + BitVec.ofNat 32 c + 1#32 := by
  rw [wd, BitVec.ofNat_add, BitVec.ofNat_add, BitVec.ofNat_mul, BitVec.mul_comm]

/-- The counter words of a chunk. -/
theorem idxV_apply {t n : ℕ} (ht : t < 62) (r : Fin 32) (j : Fin 256) :
    KI.idxV (KI.pt t) (BitVec.ofNat 32 n) (ValueIdx.ix2 r j) = wd r (128 * (128 * t + 2 * n) + j.val) := by
  change (iota .tc KernelIdeal.S32x256 32 [0] KernelIdeal.Facts₀.iota_S32x256_d0_w32 (ValueIdx.ix2 r j) * 1000000#32
    + iota .tc KernelIdeal.S32x256 32 [1] KernelIdeal.Facts₀.iota_S32x256_d1_w32 (ValueIdx.ix2 r j)
    + (BitVec.ofNat 32 (KI.pt t 0).val * 16384#32 + 1#32)) + BitVec.ofNat 32 n * 256#32 = _
  have key : ∀ a b : ℕ, a = r.val → b = j.val → (BitVec.ofNat 32 a * 1000000#32 + BitVec.ofNat 32 b
      + (BitVec.ofNat 32 t * 16384#32 + 1#32)) + BitVec.ofNat 32 n * 256#32 = wd r (128 * (128 * t + 2 * n) + j.val) := by
    rintro _ _ rfl rfl
    have e : BitVec.ofNat 32 (128 * (128 * t + 2 * n) + j.val) = BitVec.ofNat 32 j.val + BitVec.ofNat 32 t * 16384#32 + BitVec.ofNat 32 n * 256#32 := by
      refine BitVec.eq_of_toNat_eq ?_
      simp only [BitVec.toNat_add, BitVec.toNat_mul, BitVec.toNat_ofNat]
      omega
    rw [wd_split, e]
    ac_rfl
  rw [iota_single_apply, iota_single_apply, KI.pt_val ht]
  exact key _ _ rfl rfl

/-- The logits of a chunk. -/
theorem sub_apply {X : Logits} (hX : AllReal X) {t n : ℕ} (hn : n < 64) (r : Fin 32) (j : Fin 256) :
    KI.subV (KI.blkOf (F := Ideal) X t) n (ValueIdx.ix2 r j) = (xr X r (128 * (128 * t + 2 * n) + j.val) : EReal) := by
  rw [← xr_eq hX]
  refine congrArg X (congrArg (ValueIdx.ix2 r) (Fin.ext ?_))
  change (16384 * t + (256 * n + j.val) % 16384) % 1000000 = _
  have := j.isLt
  dsimp only
  rw [Nat.mod_eq_of_lt (by omega : 256 * n + j.val < 16384)]
  congr 1
  ring

/-- The scores of a chunk. -/
theorem score_apply {X : Logits} (hX : AllReal X) {t n : ℕ} (ht : t < 62) (hn : n < 64) (r : Fin 32) (j : Fin 256) :
    addf (F := Ideal) (φ := .f32) (KI.subV (KI.blkOf (F := Ideal) X t) n) (KI.gumV (KI.tfV (KI.idxV (KI.pt t) (BitVec.ofNat 32 n)))) (ValueIdx.ix2 r j) =
      ((xr X r (128 * (128 * t + 2 * n) + j.val) + gr r (128 * (128 * t + 2 * n) + j.val) : ℝ) : EReal) := by
  change ((KI.subV (KI.blkOf (F := Ideal) X t) n (ValueIdx.ix2 r j) : EReal) + KI.gumV (F := Ideal) (KI.tfV (KI.idxV (KI.pt t) (BitVec.ofNat 32 n))) (ValueIdx.ix2 r j) : EReal) = _
  rw [gumV_apply, tfV_apply, idxV_apply ht, gr_eq, sub_apply hX hn, EReal.coe_add]

/-- The exponentials of a chunk. -/
theorem exp_apply {X : Logits} (hX : AllReal X) {t n : ℕ} (hn : n < 64) (r : Fin 32) (j : Fin 256) :
    exp (F := Ideal) (φ := .f32) (KI.subV (KI.blkOf (F := Ideal) X t) n) (ValueIdx.ix2 r j) =
      (Real.exp (xr X r (128 * (128 * t + 2 * n) + j.val)) : EReal) := by
  change Ideal.exp (KI.subV (KI.blkOf (F := Ideal) X t) n (ValueIdx.ix2 r j)) = _
  rw [sub_apply hX hn, Ideal.exp_coe]

/-- A chunk of a full block. -/
theorem Lanes.chunk {X : Logits} (hX : AllReal X) {t n : ℕ} (ht : t < 61) (hn : n < 64) {a : KI.Acc Ideal}
    (h : Lanes X (128 * t + 2 * n) a) :
    Lanes X (128 * t + 2 * (n + 1)) (KI.chunkV (KI.pt t) (BitVec.ofNat 32 n) (KI.subV (KI.blkOf (F := Ideal) X t) n) a) := by
  have hc : ∀ j : Fin 256, 128 * (128 * t + 2 * n) + j.val < 1000000 := fun j => by have := j.isLt; omega
  refine h.fold _ _ _ _ (fun r j => ?_) (fun r j => ?_) (fun r j => ?_) (fun r j => idxV_apply (by omega) r j)
  · rw [score_apply hX (by omega) hn, sc, if_pos (hc j)]
  · rw [exp_apply hX hn, ex, if_pos (hc j)]
  · change ((KI.subV (KI.blkOf (F := Ideal) X t) n (ValueIdx.ix2 r j) : EReal) * exp (F := Ideal) (φ := .f32) (KI.subV (KI.blkOf (F := Ideal) X t) n) (ValueIdx.ix2 r j) : EReal) = _
    rw [exp_apply hX hn, sub_apply hX hn, mu, if_pos (hc j), EReal.coe_mul]

/-- A value chosen by a column's existing, at one place. -/
theorem select_valid {α : Type} {t n : ℕ} (ht : t < 62) (hn : n < 64) (u v : KernelIdeal.S32x256.Idx → α) (r : Fin 32) (j : Fin 256) :
    select (KI.validV (KI.pt t) (BitVec.ofNat 32 n)) u v (ValueIdx.ix2 r j) =
      if 128 * (128 * t + 2 * n) + j.val < 1000000 then u (ValueIdx.ix2 r j) else v (ValueIdx.ix2 r j) := by
  change (if KI.validV (KI.pt t) (BitVec.ofNat 32 n) (ValueIdx.ix2 r j) = 1#1 then _ else _) = _
  refine if_congr ((KI.validV_iff ht hn _).trans ?_) rfl rfl
  change 16384 * t + (256 * n + j.val) < 1000000 ↔ _
  omega

/-- A chunk of the last block. -/
theorem Lanes.chunkLast {X : Logits} (hX : AllReal X) {t n : ℕ} (ht : t < 62) (hn : n < 64) {a : KI.Acc Ideal}
    (h : Lanes X (128 * t + 2 * n) a) :
    Lanes X (128 * t + 2 * (n + 1)) (KI.chunkT (KI.pt t) (BitVec.ofNat 32 n) (KI.subV (KI.blkOf (F := Ideal) X t) n) a) := by
  have e0 : ∀ i, broadcast KernelIdeal.S32x256 (Scalar.ofBits (F := Ideal) .f32 0x00000000#32) i = (0 : EReal) := fun i => Ideal.ofBits_zero_f32
  refine h.fold _ _ _ _ (fun r j => ?_) (fun r j => ?_) (fun r j => ?_) (fun r j => idxV_apply (by omega) r j)
  · rw [select_valid ht hn, score_apply hX ht hn, sc]
    exact if_congr Iff.rfl rfl ofBits_bot
  · rw [select_valid ht hn, exp_apply hX hn, ex, e0]
    split_ifs <;> rfl
  · change ((select (KI.validV (KI.pt t) (BitVec.ofNat 32 n)) (KI.subV (KI.blkOf (F := Ideal) X t) n) _ (ValueIdx.ix2 r j) : EReal) *
      select (KI.validV (KI.pt t) (BitVec.ofNat 32 n)) (exp (F := Ideal) (φ := .f32) (KI.subV (KI.blkOf (F := Ideal) X t) n)) _ (ValueIdx.ix2 r j) : EReal) = _
    rw [select_valid ht hn, select_valid ht hn, exp_apply hX hn, sub_apply hX hn, mu, e0]
    split_ifs
    · rw [EReal.coe_mul]
    · rw [mul_zero]; rfl

/-- The lanes at the start. -/
theorem Lanes.init (X : Logits) : Lanes X 0 KI.accInit := fun r l =>
  ⟨Ideal.ofBits_zero_f32.trans (by simp), Ideal.ofBits_zero_f32.trans (by simp), fun k hk => absurd hk (Nat.not_lt_zero k), .inl ofBits_bot⟩

/-- The lanes after a run of steps. -/
theorem Lanes.steps {X : Logits} {f : ℕ → KI.Acc Ideal → KI.Acc Ideal} {K : ℕ} {a : KI.Acc Ideal} (h : Lanes X K a) (N : ℕ)
    (hf : ∀ n < N, ∀ b, Lanes X (K + 2 * n) b → Lanes X (K + 2 * (n + 1)) (f n b)) : Lanes X (K + 2 * N) (KI.steps f N a) := by
  induction N with
  | zero => exact h
  | succ N ih => exact hf N N.lt_succ_self _ (ih fun n hn => hf n (hn.trans N.lt_succ_self))

/-- The lanes after the first `t` blocks. -/
theorem Lanes.blocks {X : Logits} (hX : AllReal X) (t : ℕ) (ht : t ≤ 61) : Lanes X (128 * t) (KI.accAt (F := Ideal) X t) := by
  induction t with
  | zero => exact Lanes.init X
  | succ t ih =>
    have h := (ih (by omega)).steps 64 (f := fun n b => KI.chunkV (KI.pt t) (BitVec.ofNat 32 n) (KI.subV (KI.blkOf (F := Ideal) X t) n) b)
      fun n hn b hb => hb.chunk hX (by omega) hn
    rw [show 128 * (t + 1) = 128 * t + 2 * 64 by ring, KI.accAt, KI.blockV]
    exact h

/-- The lanes at the end. -/
theorem Lanes.final {X : Logits} (hX : AllReal X) : Lanes X 7936 (KI.accEnd (F := Ideal) X) := by
  have h := (Lanes.blocks hX 61 le_rfl).steps 64 (f := fun n b => KI.chunkT (KI.pt 61) (BitVec.ofNat 32 n) (KI.subV (KI.blkOf (F := Ideal) X 61) n) b)
    fun n hn b hb => hb.chunkLast hX (by omega) hn
  rw [show 7936 = 128 * 61 + 2 * 64 by norm_num, KI.accEnd, KI.blockT]
  exact h

/-! ## A row -/

/-- The score of row `r` at column `c`, as a real number. -/
def vr (X : Logits) (r : Fin 32) (c : ℕ) : ℝ := xr X r c + gr r c

/-- Column `c` is the first of row `r`'s columns with the greatest score. -/
structure IsBest (X : Logits) (r : Fin 32) (c : ℕ) : Prop where
  lt : c < 1000000
  le : ∀ c' < 1000000, vr X r c' ≤ vr X r c
  first : ∀ c' < c, vr X r c' < vr X r c

/-- Every row has a best column. -/
theorem exists_best (X : Logits) (r : Fin 32) : ∃ c, IsBest X r c := by
  classical
  obtain ⟨b, hb, hm⟩ := Finset.exists_max_image (range 1000000) (vr X r) ⟨0, by simp⟩
  have hP : ∃ c, c < 1000000 ∧ vr X r b ≤ vr X r c := ⟨b, mem_range.mp hb, le_rfl⟩
  refine ⟨Nat.find hP, (Nat.find_spec hP).1, fun c' hc' => (hm c' (mem_range.mpr hc')).trans (Nat.find_spec hP).2, fun c' hc' => ?_⟩
  have := Nat.find_min hP hc'
  have h1 := (Nat.find_spec hP).1
  rw [not_and, not_le] at this
  exact (this (by omega)).trans_le (Nat.find_spec hP).2

/-- The sum of a row's exponentials. -/
def S (X : Logits) (r : Fin 32) : ℝ := ∑ c ∈ range 1000000, Real.exp (xr X r c)

/-- The sum of a row's logits times their exponentials. -/
def T (X : Logits) (r : Fin 32) : ℝ := ∑ c ∈ range 1000000, xr X r c * Real.exp (xr X r c)

/-- A row's sum of exponentials is positive. -/
theorem S_pos (X : Logits) (r : Fin 32) : 0 < S X r := sum_pos (fun c _ => Real.exp_pos _) ⟨0, by simp⟩

/-- Summing lane by lane sums every column once. -/
theorem sum_lanes (f : ℕ → ℝ) (K : ℕ) : ∑ l : Fin 128, ∑ k ∈ range K, f (128 * k + l.val) = ∑ c ∈ range (128 * K), f c := by
  induction K with
  | zero => simp
  | succ K ih =>
    simp only [sum_range_succ, sum_add_distrib]
    rw [ih, Nat.mul_succ, sum_range_add, Fin.sum_univ_eq_sum_range (fun l => f (128 * K + l))]

/-- The columns past the array's end add nothing. -/
theorem sum_valid (f : ℕ → ℝ) {N : ℕ} (hN : 1000000 ≤ N) :
    ∑ c ∈ range N, (if c < 1000000 then f c else 0) = ∑ c ∈ range 1000000, f c := by
  rw [← sum_filter]
  refine sum_congr (Finset.ext fun c => ?_) fun _ _ => rfl
  simp only [mem_filter, mem_range]
  exact ⟨And.right, fun h => ⟨h.trans_le hN, h⟩⟩

end Cert.Proof
-- ==== Proof.KOut.lean ====
module

public import proofs.«01_k».proof.Proof.KRow
public import Idealize.ShloMosaic.Lib.ValueLayoutCasts

@[expose] public section

set_option maxRecDepth 8192

noncomputable section

namespace Cert.Proof

open Idealize.ShloMosaic Idealize.ShloMosaic.TcCoe
open Finset

/-- A sum of real numbers, read as an extended real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

/-- The place of lane `l` in row `r`, as a reduction over the lanes names it. -/
theorem lift_lane (h : KernelIdeal.S32x128.Reduces [1] KernelIdeal.S32) (r : Fin 32) (l : Fin 128) :
    h.lift (ValueIdx.ix1 r) l = ValueIdx.ix2 r l := by
  funext a
  match a with
  | ⟨0, _⟩ => rfl
  | ⟨1, _⟩ => rfl

/-- A sum over the lanes of a row. -/
theorem sumL_apply (x : FVec Ideal KernelIdeal.S32x128 .f32) (r : Fin 32) :
    KI.sumL x (ValueIdx.ix2 r 0) = ∑ l : Fin 128, (x (ValueIdx.ix2 r l) : EReal) := by
  refine (ValueIdx.shapeCast_a_a1_apply _ _ r 0).trans ((Ideal.multiReduction_add_single _ _ _ _ _ _).trans ?_)
  exact sum_congr rfl fun l _ => congrArg x (lift_lane _ r l)

/-- A maximum over the lanes of a row. -/
theorem maxL_apply (x : FVec Ideal KernelIdeal.S32x128 .f32) (r : Fin 32) :
    KI.maxL x (ValueIdx.ix2 r 0) = (Finset.univ : Finset (Fin 128)).fold max (⊥ : EReal) fun l => (x (ValueIdx.ix2 r l) : EReal) := by
  refine (ValueIdx.shapeCast_a_a1_apply _ _ r 0).trans ((Ideal.multiReduction_maximumf_single _ _ _ _ _ _).trans ?_)
  have e : (x ∘ (KernelIdeal.Facts₀.reduces_S32x128_S32).lift (ValueIdx.ix1 r)) = fun l : Fin 128 => x (ValueIdx.ix2 r l) :=
    funext fun l => congrArg x (lift_lane _ r l)
  exact (congrArg₂ (fun b f => (Finset.univ : Finset (Fin 128)).fold (max : EReal → EReal → EReal) b f) ofBits_bot e)

/-- The signed minimum of two words, as integers. -/
theorem minsi_toInt (x y : BitVec 32) : (IntOp.minsi x y).toInt = min x.toInt y.toInt := by
  unfold IntOp.minsi
  by_cases h : x.slt y = true
  · rw [if_pos h, min_eq_left]
    exact le_of_lt (by simpa [BitVec.slt] using h)
  · rw [if_neg h, min_eq_right]
    exact not_lt.mp (by simpa [BitVec.slt] using h)

/-- The least counter word among the lanes holding the row's maximum. -/
theorem bestW_apply (a : KI.Acc Ideal) (r : Fin 32) :
    (KI.bestW a (ValueIdx.ix2 r 0)).toInt = (Finset.univ : Finset (Fin 128)).fold min (2147483647 : ℤ) fun l =>
      (if (a.2.2.1 (ValueIdx.ix2 r l) : EReal) = KI.maxL (F := Ideal) a.2.2.1 (ValueIdx.ix2 r 0) then a.2.2.2 (ValueIdx.ix2 r l) else 1073741824#32).toInt := by
  have e : KI.bestW a (ValueIdx.ix2 r 0) = _ :=
    (ValueIdx.shapeCast_a_a1_apply _ _ r 0).trans ((multiReductionI_eq_fold _ _ _ _ _ _).trans (Shape.Reduces.fold_filter_drop_single _ _ _ _ _))
  rw [e]
  refine (Finset.fold_hom (op := IKind.minsi.op) (op' := (min : ℤ → ℤ → ℤ)) (m := BitVec.toInt) minsi_toInt).symm.trans ?_
  refine Finset.fold_congr fun l _ => congrArg BitVec.toInt ?_
  refine (congrArg (select _ _ _) (lift_lane _ r l)).trans ?_
  change (if BitVec.ofBool (decide ((a.2.2.1 (ValueIdx.ix2 r l) : EReal) =
    broadcastTo KernelIdeal.S32x128 (KI.maxL (F := Ideal) a.2.2.1) KernelIdeal.Facts₀.broadcasts_S32x1_S32x128 (ValueIdx.ix2 r l))) = 1#1 then _ else _) = _
  have e2 : broadcastTo KernelIdeal.S32x128 (KI.maxL (F := Ideal) a.2.2.1) KernelIdeal.Facts₀.broadcasts_S32x1_S32x128 (ValueIdx.ix2 r l) =
      KI.maxL (F := Ideal) a.2.2.1 (ValueIdx.ix2 r 0) := by
    refine congrArg (KI.maxL (F := Ideal) a.2.2.1) (funext fun k => ?_)
    match k with
    | ⟨0, _⟩ => rfl
    | ⟨1, _⟩ => rfl
  rw [e2]
  by_cases h : (a.2.2.1 (ValueIdx.ix2 r l) : EReal) = KI.maxL (F := Ideal) a.2.2.1 (ValueIdx.ix2 r 0)
  · rw [if_pos h]; simp [h]
  · rw [if_neg h]; simp [h]; rfl

/-- A counter word is positive as a signed number. -/
theorem wd_toInt (r : Fin 32) {c : ℕ} (hc : c < 1000000) : (wd r c).toInt = 1000000 * (r.val : ℤ) + c + 1 := by
  have := r.isLt
  have e : (wd r c).toNat = 1000000 * r.val + c + 1 := by
    rw [wd, BitVec.toNat_ofNat, Nat.mod_eq_of_lt]
    omega
  rw [BitVec.toInt_eq_toNat_of_lt (by rw [e]; omega), e]
  push_cast
  ring

section Final

variable {X : Logits} (hX : AllReal X) {r : Fin 32} {c : ℕ} (hc : IsBest X r c)
include hX hc

/-- No score is above the best one. -/
theorem sc_le {c' : ℕ} : sc X r c' ≤ (vr X r c : EReal) := by
  unfold sc
  split_ifs with h
  · exact EReal.coe_le_coe_iff.mpr (hc.le c' h)
  · exact bot_le

/-- No lane ends above the best score. -/
theorem lane_le (l : Fin 128) : ((KI.accEnd (F := Ideal) X).2.2.1 (ValueIdx.ix2 r l) : EReal) ≤ (vr X r c : EReal) := by
  rcases (Lanes.final hX r l).att with h | ⟨k, -, -, h, -⟩
  · rw [h]; exact bot_le
  · rw [h]; exact sc_le hX hc

/-- The lane of the best column holds its score. -/
theorem lane_best : ((KI.accEnd (F := Ideal) X).2.2.1 (ValueIdx.ix2 r ⟨c % 128, Nat.mod_lt _ (by decide)⟩) : EReal) = (vr X r c : EReal) := by
  refine le_antisymm (lane_le hX hc _) ?_
  have h := (Lanes.final hX r ⟨c % 128, Nat.mod_lt _ (by decide)⟩).up (c / 128) (by have := hc.lt; omega)
  dsimp only at h
  rw [Nat.div_add_mod, sc, if_pos hc.lt] at h
  exact h

/-- The greatest score over the lanes is the row's best score. -/
theorem max_final : KI.maxL (F := Ideal) (KI.accEnd (F := Ideal) X).2.2.1 (ValueIdx.ix2 r 0) = (vr X r c : EReal) := by
  rw [maxL_apply]
  refine le_antisymm ((Finset.fold_max_le _).mpr ⟨bot_le, fun l _ => lane_le hX hc l⟩) ?_
  exact (Finset.le_fold_max _).mpr (.inr ⟨⟨c % 128, Nat.mod_lt _ (by decide)⟩, mem_univ _, (lane_best hX hc).ge⟩)

/-- A lane that holds the greatest score holds the counter word of a column at or after the best one; the best column's lane holds its own. -/
theorem lane_word (l : Fin 128) (h : ((KI.accEnd (F := Ideal) X).2.2.1 (ValueIdx.ix2 r l) : EReal) = (vr X r c : EReal)) :
    ∃ c', c ≤ c' ∧ c' < 1000000 ∧ (KI.accEnd (F := Ideal) X).2.2.2 (ValueIdx.ix2 r l) = wd r c' ∧ (l.val = c % 128 → c' = c) := by
  rcases (Lanes.final hX r l).att with hb | ⟨k, -, hk, hb, hw, hf⟩
  · exact absurd (h.symm.trans hb) (EReal.coe_ne_bot _)
  · have hv : vr X r (128 * k + l.val) = vr X r c := by
      have := hb.symm.trans h
      rw [sc, if_pos hk] at this
      exact EReal.coe_injective this
    have hle : c ≤ 128 * k + l.val := by
      by_contra hlt
      exact absurd hv (hc.first _ (not_le.mp hlt)).ne
    refine ⟨_, hle, hk, hw, fun hl => ?_⟩
    by_contra hne
    have hlt : c / 128 < k := by have := l.isLt; omega
    have := hf (c / 128) hlt
    rw [hl, Nat.div_add_mod, h, sc, if_pos hc.lt] at this
    exact lt_irrefl _ this

/-- The counter word the lanes end at is the best column's. -/
theorem best_final : KI.bestW (KI.accEnd (F := Ideal) X) (ValueIdx.ix2 r 0) = wd r c := by
  have hr := r.isLt
  refine BitVec.eq_of_toInt_eq ?_
  rw [bestW_apply, max_final hX hc]
  refine le_antisymm ((Finset.fold_min_le _).mpr (.inr ⟨⟨c % 128, Nat.mod_lt _ (by decide)⟩, mem_univ _, ?_⟩))
    ((Finset.le_fold_min _).mpr ⟨?_, fun l _ => ?_⟩)
  · rw [if_pos (lane_best hX hc)]
    obtain ⟨c', -, -, hw, he⟩ := lane_word hX hc _ (lane_best hX hc)
    rw [hw, he rfl]
  · rw [wd_toInt r hc.lt]
    have := hc.lt
    omega
  · split_ifs with h
    · obtain ⟨c', hle, hlt, hw, -⟩ := lane_word hX hc l h
      rw [hw, wd_toInt r hc.lt, wd_toInt r hlt]
      omega
    · rw [wd_toInt r hc.lt]
      have := hc.lt
      change _ ≤ (1073741824 : ℤ)
      omega

omit hc in
/-- The lanes' sums of exponentials make the row's. -/
theorem sum_final : KI.sumL (F := Ideal) (KI.accEnd (F := Ideal) X).1 (ValueIdx.ix2 r 0) = (S X r : EReal) := by
  rw [sumL_apply, sum_congr rfl fun l _ => (Lanes.final hX r l).sum, coe_sum, sum_lanes (ex X r)]
  exact congrArg _ (sum_valid (fun c => Real.exp (xr X r c)) (by norm_num))

omit hc in
/-- The lanes' sums of logits times exponentials make the row's. -/
theorem mix_final : KI.sumL (F := Ideal) (KI.accEnd (F := Ideal) X).2.1 (ValueIdx.ix2 r 0) = (T X r : EReal) := by
  rw [sumL_apply, sum_congr rfl fun l _ => (Lanes.final hX r l).mix, coe_sum, sum_lanes (mu X r)]
  exact congrArg _ (sum_valid (fun c => xr X r c * Real.exp (xr X r c)) (by norm_num))

/-- The action the kernel writes for row `r`: the row's best column. -/
theorem act_final : KI.outAct (KI.accEnd (F := Ideal) X) (ValueIdx.ix2 r 0) = BitVec.ofNat 32 c := by
  have key : ∀ a : ℕ, a = r.val → wd r c - BitVec.ofNat 32 a * 1000000#32 - 1#32 = BitVec.ofNat 32 c := by
    rintro _ rfl
    rw [wd_split]
    generalize BitVec.ofNat 32 r.val * 1000000#32 = z
    generalize BitVec.ofNat 32 c = y
    rw [show z + y + 1#32 = y + 1#32 + z by ac_rfl, BitVec.add_sub_cancel, BitVec.add_sub_cancel]
  have out : ∀ (x y : IVec KernelIdeal.S32x1 32) (k o : BitVec 32) (i : KernelIdeal.S32x1.Idx),
      subi (subi x (muli y (broadcast KernelIdeal.S32x1 k))) (broadcast KernelIdeal.S32x1 o) i = x i - y i * k - o := fun _ _ _ _ _ => rfl
  rw [KI.outAct, out, iota_single_apply, best_final hX hc]
  exact key _ rfl

/-- The log-probability the kernel writes for row `r`. -/
theorem pi_final : KI.outPi (KI.accEnd (F := Ideal) X) (ValueIdx.ix2 r 0) = ((xr X r c - Real.log (S X r) : ℝ) : EReal) := by
  change (KI.maxL (F := Ideal) (KI.accEnd (F := Ideal) X).2.2.1 (ValueIdx.ix2 r 0) : EReal) -
    (KI.gumV (F := Ideal) (KI.tfV (KI.bestW (KI.accEnd (F := Ideal) X))) (ValueIdx.ix2 r 0) : EReal) -
    Ideal.log (KI.sumL (F := Ideal) (KI.accEnd (F := Ideal) X).1 (ValueIdx.ix2 r 0)) = _
  rw [gumV_apply, tfV_apply, best_final hX hc, gr_eq, max_final hX hc, sum_final hX, Ideal.log_coe, if_neg (not_le.mpr (S_pos X r)),
    ← EReal.coe_sub, ← EReal.coe_sub, vr, add_sub_cancel_right]

omit hc in
/-- The entropy the kernel writes for row `r`. -/
theorem ent_final : KI.outEnt (KI.accEnd (F := Ideal) X) (ValueIdx.ix2 r 0) = ((Real.log (S X r) - T X r / S X r : ℝ) : EReal) := by
  change Ideal.log (KI.sumL (F := Ideal) (KI.accEnd (F := Ideal) X).1 (ValueIdx.ix2 r 0)) -
    Ideal.div (KI.sumL (F := Ideal) (KI.accEnd (F := Ideal) X).2.1 (ValueIdx.ix2 r 0)) (KI.sumL (F := Ideal) (KI.accEnd (F := Ideal) X).1 (ValueIdx.ix2 r 0)) = _
  rw [sum_final hX, mix_final hX, Ideal.log_coe, if_neg (not_le.mpr (S_pos X r)), Ideal.div_coe (S_pos X r).ne', ← EReal.coe_mul,
    ← EReal.coe_sub, mul_one_div]

end Final

end Cert.Proof
-- ==== Proof.RefVal.lean ====
module

public import proofs.«01_k».proof.Defs
public import proofs.«01_k».proof.Proof.RefSpec
public import Idealize.ShloMosaic.Lib.StableHlo.RunHlo
public import Idealize.ShloMosaic.Lib.Claim
public import Idealize.ShloMosaic.Lib.Quiescent

@[expose] public section

set_option maxRecDepth 65536

noncomputable section

namespace Cert.Proof.RI

open Idealize.ShloMosaic Idealize.ShloMosaic.TcCoe
open Idealize.SL.Sem Cert.ReferenceIdeal
attribute [local instance] Cert.ReferenceIdeal.Gen.facts

/-- The reference's argument on device `c`. -/
abbrev arg (m : (ℓ : Loc nD τ sig) → Buf (Elt Ideal) ℓ) (c : Dev nD) : FVec Ideal S32x1000000 .f32 :=
  m ((c.tc : Thread nD τ).loc main_arg0)

/-- The reference's operations in order, read off its program. -/
def opsData : {ops : List (HloOp τ sig (Elt Ideal)) // ∀ d, StableHlo.IsSeq (nD := nD) (main (F := Ideal) d) ops} :=
  by apply Subtype.mk; hlo_seq

/-- The reference's operations in order. -/
def refOps : List (HloOp τ sig (Elt Ideal)) := opsData.1

/-- `n` of the operations, from number `k` on. -/
def seg (k n : ℕ) : List (HloOp τ sig (Elt Ideal)) := (refOps.drop k).take n

/-- The operations from `k` on are `n` of them and then the rest. -/
theorem after_cut (k n : ℕ) (V : Valuation τ sig (Elt Ideal)) :
    StableHlo.after (refOps.drop k) V = StableHlo.after (refOps.drop (k + n)) (StableHlo.after (seg k n) V) := by
  rw [seg, ← StableHlo.after_append, ← List.drop_drop, List.take_append_drop]

/-- A buffer that no operation of a segment writes keeps its contents. -/
theorem after_keep {k n : ℕ} {r : Ref sig .tc} (V : Valuation τ sig (Elt Ideal))
    (h : ∀ op ∈ seg k n, Proc.devRef (τ := τ) .tc r ∉ op.writes) :
    StableHlo.after (seg k n) V (Proc.devRef .tc r) = V (Proc.devRef .tc r) :=
  StableHlo.after_of_forall_not_mem _ V h

/-- The contents of two buffers of words. -/
def pairAt (V : Valuation τ sig (Elt Ideal)) (a b : Ref sig .tc) (ha : a.ty = ⟨S32x1000000, .i32⟩) (hb : b.ty = ⟨S32x1000000, .i32⟩) :
    IVec S32x1000000 32 × IVec S32x1000000 32 :=
  (cast (congrArg (·.Contents (Elt Ideal)) ha) (V (Proc.devRef .tc a)), cast (congrArg (·.Contents (Elt Ideal)) hb) (V (Proc.devRef .tc b)))

set_option maxHeartbeats 2000000 in
/-- The key words, the counter words with the key added, and the argument, after the first operations. -/
theorem head (V : Valuation τ sig (Elt Ideal)) :
    StableHlo.after (seg 0 41) V (Proc.devRef .tc main_call0_v5) = keyHi ∧
    StableHlo.after (seg 0 41) V (Proc.devRef .tc main_call0_v7) = keyLo ∧
    StableHlo.after (seg 0 41) V (Proc.devRef .tc main_call0_v2) = one11 (F := Ideal) 0x00000000#32 ∧
    StableHlo.after (seg 0 41) V (Proc.devRef .tc main_call0_v3) = one11 (F := Ideal) 0x3F800000#32 ∧
    StableHlo.after (seg 0 41) V (Proc.devRef .tc main_call0_call0_v1) = key2 keyHi keyLo ∧
    pairAt (StableHlo.after (seg 0 41) V) main_call0_call0_v3 main_call0_call0_v5 rfl rfl =
      (addi countR.1 (fill keyHi), addi countR.2 (fill keyLo)) := by
  simp only [seg, refOps, opsData, List.drop_succ_cons, List.drop_zero, List.take_succ_cons, List.take_zero]
  refine ⟨?_, ?_, ?_, ?_, ?_, Prod.ext ?_ ?_⟩ <;> try dsimp only [pairAt, cast_eq]
  all_goals after_results
  all_goals rfl

set_option maxHeartbeats 2000000 in
/-- Each group of four rounds, with the key words added after it. -/
theorem groups (V : Valuation τ sig (Elt Ideal)) :
    pairAt (StableHlo.after (seg 41 43) V) main_call0_call0_v35 main_call0_call0_v39 rfl rfl =
      injR (groupA (pairAt V main_call0_call0_v3 main_call0_call0_v5 rfl rfl)) (V (Proc.devRef .tc main_call0_v7)) (V (Proc.devRef .tc main_call0_call0_v1)) 1#32 ∧
    pairAt (StableHlo.after (seg 84 43) V) main_call0_call0_v69 main_call0_call0_v73 rfl rfl =
      injR (groupB (pairAt V main_call0_call0_v35 main_call0_call0_v39 rfl rfl)) (V (Proc.devRef .tc main_call0_call0_v1)) (V (Proc.devRef .tc main_call0_v5)) 2#32 ∧
    pairAt (StableHlo.after (seg 127 43) V) main_call0_call0_v103 main_call0_call0_v107 rfl rfl =
      injR (groupA (pairAt V main_call0_call0_v69 main_call0_call0_v73 rfl rfl)) (V (Proc.devRef .tc main_call0_v5)) (V (Proc.devRef .tc main_call0_v7)) 3#32 ∧
    pairAt (StableHlo.after (seg 170 43) V) main_call0_call0_v137 main_call0_call0_v141 rfl rfl =
      injR (groupB (pairAt V main_call0_call0_v103 main_call0_call0_v107 rfl rfl)) (V (Proc.devRef .tc main_call0_v7)) (V (Proc.devRef .tc main_call0_call0_v1)) 4#32 ∧
    pairAt (StableHlo.after (seg 213 43) V) main_call0_v19_0 main_call0_v19_1 rfl rfl =
      injR (groupA (pairAt V main_call0_call0_v137 main_call0_call0_v141 rfl rfl)) (V (Proc.devRef .tc main_call0_call0_v1)) (V (Proc.devRef .tc main_call0_v5)) 5#32 := by
  simp only [seg, refOps, opsData, List.drop_succ_cons, List.drop_zero, List.take_succ_cons, List.take_zero]
  refine ⟨Prod.ext ?_ ?_, Prod.ext ?_ ?_, Prod.ext ?_ ?_, Prod.ext ?_ ?_, Prod.ext ?_ ?_⟩ <;>
    dsimp only [pairAt, cast_eq] <;> after_results <;> rfl

set_option maxHeartbeats 2000000 in
/-- The Gumbel noise, from the two words of the generator. -/
theorem noise (V : Valuation τ sig (Elt Ideal)) :
    StableHlo.after (seg 256 25) V (Proc.devRef .tc main_v13) =
      gumR (F := Ideal) (V (Proc.devRef .tc main_call0_v2)) (V (Proc.devRef .tc main_call0_v3)) (xori (pairAt V main_call0_v19_0 main_call0_v19_1 rfl rfl).1
        (pairAt V main_call0_v19_0 main_call0_v19_1 rfl rfl).2) := by
  simp only [seg, refOps, opsData, List.drop_succ_cons, List.drop_zero, List.take_succ_cons, List.take_zero]
  dsimp only [pairAt, cast_eq]
  after_results
  rfl

/-- The actions and the log-probabilities, from the noise and the argument. -/
theorem picks (V : Valuation τ sig (Elt Ideal)) :
    StableHlo.after (seg 281 24) V (Proc.devRef .tc main_v17) =
      actR (F := Ideal) (V (Proc.devRef .tc main_v13)) (V (Proc.devRef .tc main_arg0)) ∧
    StableHlo.after (seg 281 24) V (Proc.devRef .tc main_v18) = logpR (F := Ideal) (V (Proc.devRef .tc main_arg0)) := by
  simp only [seg, refOps, opsData, List.drop_succ_cons, List.drop_zero, List.take_succ_cons, List.take_zero]
  refine ⟨?_, ?_⟩
  · after_results; rfl
  · after_results
    simp only [StableHlo.TRef.ofBuf_toBuf]
    rfl

/-- The log-probabilities of the actions and the entropies, from all log-probabilities. -/
theorem rest (V : Valuation τ sig (Elt Ideal)) :
    StableHlo.after (seg 305 29) V (Proc.devRef .tc main_v21) =
      shapeCast S32 (takeR (F := Ideal) (V (Proc.devRef .tc main_v18)) (col (V (Proc.devRef .tc main_v17)))) Facts₀.shapeCasts_S32x1_S32 ∧
    StableHlo.after (seg 305 29) V (Proc.devRef .tc main_v25) =
      Host.negf (rowSum (F := Ideal) (mulf (Host.exp (V (Proc.devRef .tc main_v18))) (V (Proc.devRef .tc main_v18)))) := by
  simp only [seg, refOps, opsData, List.drop_succ_cons, List.drop_zero, List.take_succ_cons, List.take_zero]
  refine ⟨?_, ?_⟩ <;> after_results <;> (try simp only [StableHlo.TRef.ofBuf_toBuf]) <;> rfl

/-- There are 334 operations. -/
theorem done (V : Valuation τ sig (Elt Ideal)) : StableHlo.after (refOps.drop 334) V = V := by
  simp only [refOps, opsData, List.drop_succ_cons, List.drop_zero, StableHlo.after_nil]

/-- The whole line, one segment after another. -/
theorem after_all (V : Valuation τ sig (Elt Ideal)) : StableHlo.after refOps V =
    StableHlo.after (seg 305 29) (StableHlo.after (seg 281 24) (StableHlo.after (seg 256 25) (StableHlo.after (seg 213 43)
      (StableHlo.after (seg 170 43) (StableHlo.after (seg 127 43) (StableHlo.after (seg 84 43) (StableHlo.after (seg 41 43)
        (StableHlo.after (seg 0 41) V)))))))) := by
  rw [show refOps = refOps.drop 0 from rfl, after_cut 0 41, after_cut (0 + 41) 43, after_cut (0 + 41 + 43) 43,
    after_cut (0 + 41 + 43 + 43) 43, after_cut (0 + 41 + 43 + 43 + 43) 43, after_cut (0 + 41 + 43 + 43 + 43 + 43) 43,
    after_cut (0 + 41 + 43 + 43 + 43 + 43 + 43) 25, after_cut (0 + 41 + 43 + 43 + 43 + 43 + 43 + 25) 24,
    after_cut (0 + 41 + 43 + 43 + 43 + 43 + 43 + 25 + 24) 29]
  exact done _

/-- No group of rounds writes the argument or the values it was given once. -/
theorem kept : ∀ k ∈ [41, 84, 127, 170, 213],
    ∀ r ∈ ([main_arg0, main_call0_v2, main_call0_v3, main_call0_v5, main_call0_v7, main_call0_call0_v1] : List (Ref sig .tc)),
    ∀ op ∈ seg k 43, Proc.devRef (τ := τ) .tc r ∉ op.writes := by decide +kernel

/-- The contents of every buffer, after the operations up to and with a group of rounds: `V1` before the first group. -/
structure Known (V : Valuation τ sig (Elt Ideal)) (x : FVec Ideal S32x1000000 .f32) : Prop where
  arg : V (Proc.devRef .tc main_arg0) = x
  lo : V (Proc.devRef .tc main_call0_v2) = one11 (F := Ideal) 0x00000000#32
  hi : V (Proc.devRef .tc main_call0_v3) = one11 (F := Ideal) 0x3F800000#32
  k0 : V (Proc.devRef .tc main_call0_v5) = keyHi
  k1 : V (Proc.devRef .tc main_call0_v7) = keyLo
  k2 : V (Proc.devRef .tc main_call0_call0_v1) = key2 keyHi keyLo

/-- What is known stays known over a group of rounds. -/
theorem Known.step {V : Valuation τ sig (Elt Ideal)} {x : FVec Ideal S32x1000000 .f32} (h : Known V x) {k : ℕ}
    (hk : k ∈ [41, 84, 127, 170, 213]) : Known (StableHlo.after (seg k 43) V) x where
  arg := (after_keep V (kept k hk _ (by decide))).trans h.arg
  lo := (after_keep V (kept k hk _ (by decide))).trans h.lo
  hi := (after_keep V (kept k hk _ (by decide))).trans h.hi
  k0 := (after_keep V (kept k hk _ (by decide))).trans h.k0
  k1 := (after_keep V (kept k hk _ (by decide))).trans h.k1
  k2 := (after_keep V (kept k hk _ (by decide))).trans h.k2

/-- The noise the reference adds. -/
def noiseR : FVec Ideal S32x1000000 .f32 := gumR (one11 0x00000000#32) (one11 0x3F800000#32) wordR

/-- The three results after the whole line, and the argument. -/
theorem after_val (V : Valuation τ sig (Elt Ideal)) (x : FVec Ideal S32x1000000 .f32) (hx : V (Proc.devRef .tc main_arg0) = x) :
    StableHlo.after refOps V (Proc.devRef .tc main_v17) = actR noiseR x ∧
    StableHlo.after refOps V (Proc.devRef .tc main_v21) = piR noiseR x ∧
    StableHlo.after refOps V (Proc.devRef .tc main_v25) = entR x ∧
    StableHlo.after refOps V (Proc.devRef .tc main_arg0) = x := by
  rw [after_all]
  obtain ⟨h5, h7, h2, h3, hk, hp⟩ := head V
  have K1 : Known (StableHlo.after (seg 0 41) V) x :=
    ⟨(after_keep V (by decide +kernel)).trans hx, h2, h3, h5, h7, hk⟩
  clear h5 h7 h2 h3 hk
  generalize StableHlo.after (seg 0 41) V = V1 at *
  have p2 := (groups V1).1
  rw [hp, K1.k1, K1.k2] at p2
  have K2 := K1.step (k := 41) (by decide)
  clear hp K1
  generalize StableHlo.after (seg 41 43) V1 = V2 at *
  have p3 := (groups V2).2.1
  rw [p2, K2.k2, K2.k0] at p3
  have K3 := K2.step (k := 84) (by decide)
  clear p2 K2
  generalize StableHlo.after (seg 84 43) V2 = V3 at *
  have p4 := (groups V3).2.2.1
  rw [p3, K3.k0, K3.k1] at p4
  have K4 := K3.step (k := 127) (by decide)
  clear p3 K3
  generalize StableHlo.after (seg 127 43) V3 = V4 at *
  have p5 := (groups V4).2.2.2.1
  rw [p4, K4.k1, K4.k2] at p5
  have K5 := K4.step (k := 170) (by decide)
  clear p4 K4
  generalize StableHlo.after (seg 170 43) V4 = V5 at *
  have p6 := (groups V5).2.2.2.2
  rw [p5, K5.k2, K5.k0] at p6
  have K6 := K5.step (k := 213) (by decide)
  clear p5 K5
  generalize StableHlo.after (seg 213 43) V5 = V6 at *
  have g7 := noise V6
  rw [p6, K6.lo, K6.hi] at g7
  have a7 : StableHlo.after (seg 256 25) V6 (Proc.devRef .tc main_arg0) = x := (after_keep V6 (by decide +kernel)).trans K6.arg
  change _ = noiseR at g7
  clear p6 K6
  generalize StableHlo.after (seg 256 25) V6 = V7 at *
  obtain ⟨h17, h18⟩ := picks V7
  rw [a7] at h17 h18
  rw [g7] at h17
  have a8 : StableHlo.after (seg 281 24) V7 (Proc.devRef .tc main_arg0) = x := (after_keep V7 (by decide +kernel)).trans a7
  generalize StableHlo.after (seg 281 24) V7 = V8 at *
  obtain ⟨h21, h25⟩ := rest V8
  rw [h18] at h21 h25
  rw [h17] at h21
  exact ⟨(after_keep V8 (by decide +kernel)).trans h17, h21, h25, (after_keep V8 (by decide +kernel)).trans a8⟩

/-- The reference runs to its three results and leaves its argument alone. -/
theorem run_R (m : (ℓ : Loc nD τ sig) → Buf (Elt Ideal) ℓ) (g : Dev nD → PrngReg) :
    θ_run (defs (F := Ideal)) (onTc (τ := τ) main) ⟨m, fun _ => 0, g⟩ (fun r => ∀ c : Dev nD,
      r.2.mem ((c.tc : Thread nD τ).loc main_v17) = actR noiseR (arg m c) ∧
      r.2.mem ((c.tc : Thread nD τ).loc main_v21) = piR noiseR (arg m c) ∧
      r.2.mem ((c.tc : Thread nD τ).loc main_v25) = entR (arg m c) ∧
      r.2.mem ((c.tc : Thread nD τ).loc main_arg0) = m ((c.tc : Thread nD τ).loc main_arg0)) := by
  refine θ_run_mono (StableHlo.run_hlo _ _ (ops := refOps) opsData.2 (by decide) (by decide) ?_ ?_ _ _) ?_
  · simp [refOps, opsData]
  · rw [refOps, opsData]
    intro _ h; (repeat (cases h with | head => rfl | tail _ h => ?_)); exact nomatch h
  intro r h c
  obtain ⟨h1, h2, h3, h4⟩ := after_val (StableHlo.launchContents m c) (arg m c) rfl
  exact ⟨(h c _).trans h1, (h c _).trans h2, (h c _).trans h3, (h c _).trans h4⟩

end Cert.Proof.RI
-- ==== Proof.RefMath.lean ====
module

public import proofs.«01_k».proof.Proof.KOut
public import proofs.«01_k».proof.Proof.RefVal
public import Idealize.ShloMosaic.Lib.ValueLayoutCasts
public import Idealize.ShloMosaic.Lib.IdealHost

@[expose] public section

set_option maxRecDepth 8192

noncomputable section

namespace Cert.Proof

open Idealize.ShloMosaic Idealize.ShloMosaic.TcCoe
open Cert.ReferenceIdeal Cert.ReferenceIdeal.Facts₀ Cert.ReferenceIdeal.Facts
open Finset

attribute [local instance] Cert.ReferenceIdeal.Gen.facts

/-- A row is reduced along its columns. -/
theorem red : S32x1000000.Reduces [1] S32 := by decide

/-- The place of column `k` in row `r`, as a reduction over the columns names it. -/
theorem lift_col (h : S32x1000000.Reduces [1] S32) (r : Fin 32) (k : Fin 1000000) :
    h.lift (ValueIdx.ix1 r) k = ValueIdx.ix2 r k := by
  funext a
  match a with
  | ⟨0, _⟩ => rfl
  | ⟨1, _⟩ => rfl

/-- The sum of a row whose entries are real numbers. -/
theorem rowSum_apply (y : FVec Ideal S32x1000000 .f32) (r : Fin 32) (f : ℕ → ℝ)
    (h : ∀ k : Fin 1000000, (y (ValueIdx.ix2 r k) : EReal) = (f k.val : EReal)) :
    RI.rowSum y (ValueIdx.ix1 r) = ((∑ c ∈ range 1000000, f c : ℝ) : EReal) := by
  change Ideal.hostReduceAdd reducesTo_S32x1000000_S32_d1 y (Ideal.ofBits .f32 0x00000000#32) (ValueIdx.ix1 r) = _
  rw [Ideal.hostReduceAdd_single _ red, Ideal.ofBits_zero_f32, zero_add]
  refine (sum_congr rfl fun k _ => (congrArg y (lift_col red r k)).trans (h k)).trans ?_
  exact (coe_sum (univ : Finset (Fin 1000000)) fun k => f k.val).trans (congrArg (fun z : ℝ => (z : EReal)) (Fin.sum_univ_eq_sum_range f 1000000))

/-- The greatest of finitely many real numbers is a real number. -/
theorem fold_max_real {n : ℕ} (hn : 0 < n) (v : Fin n → ℝ) :
    ∃ b : ℝ, (univ : Finset (Fin n)).fold max (⊥ : EReal) (fun k => (v k : EReal)) = (b : EReal) := by
  obtain ⟨b, hb, hm⟩ := Finset.exists_max_image (univ : Finset (Fin n)) v ⟨⟨0, hn⟩, mem_univ _⟩
  refine ⟨v b, le_antisymm ((Finset.fold_max_le _).mpr ⟨bot_le, fun l hl => EReal.coe_le_coe_iff.mpr (hm l hl)⟩) ?_⟩
  exact (Finset.le_fold_max _).mpr (.inr ⟨b, hb, le_rfl⟩)

/-- The reduced maximum of a row whose entries are real numbers. -/
theorem reduce_max (x : FVec Ideal S32x1000000 .f32) (r : Fin 32) (v : Fin (S32x1000000.size 1) → ℝ)
    (h : ∀ k, (x (red.lift (ValueIdx.ix1 r) k) : EReal) = (v k : EReal)) :
    ∃ b : ℝ, Host.reduce (FloatOps.maximumf (F := Ideal) (φ := .f32)) x (constant (F := Ideal) S_ .f32 0xFF800000#32)
      reducesTo_S32x1000000_S32_d1 h_S_ (ValueIdx.ix1 r) = (b : EReal) := by
  obtain ⟨b, hb⟩ := fold_max_real (n := S32x1000000.size 1) (by decide) v
  refine ⟨b, (Host.reduce_eq_fold_single _ _ _ _ red _ _).trans (Eq.trans ?_ hb)⟩
  refine (Finset.fold_congr fun k _ => h k).trans ?_
  exact congrArg (fun b => (univ : Finset (Fin (S32x1000000.size 1))).fold (max : EReal → EReal → EReal) b fun k => (v k : EReal)) ofBits_bot

/-- One value per row, copied along the row, at a place. -/
theorem rows_apply {F : FTy → Type} [FloatOps F] (y : FVec F S32x1 .f32) (r : Fin 32) (k : Fin 1000000) :
    RI.rows y (ValueIdx.ix2 r k) = y (ValueIdx.ix2 r 0) := by
  refine congrArg y (funext fun a => ?_)
  match a with
  | ⟨0, _⟩ => rfl
  | ⟨1, _⟩ => rfl

/-- A column of values at a place. -/
theorem col_apply {α : Type} (y : S32.Idx → α) (r : Fin 32) : RI.col y (ValueIdx.ix2 r 0) = y (ValueIdx.ix1 r) := by
  refine congrArg y (funext fun a => ?_)
  match a with
  | ⟨0, _⟩ => rfl

/-- The greater of minus infinity and a value is the value. -/
theorem max_bot_apply (y : FVec Ideal S32 .f32) (j : S32.Idx) :
    maximumf (F := Ideal) (broadcastInDim S32 ![] bcast_S_S32 (constant S_ .f32 0xFF800000#32)) y j = y j := by
  change max (Ideal.ofBits .f32 0xFF800000#32) (y j : EReal) = _
  rw [ofBits_bot, max_eq_right bot_le]

/-! The host's operations at a place. -/

/-- The logarithm at a place. -/
theorem log_at {s : Shape} (y : FVec Ideal s .f32) (j : s.Idx) : Host.log y j = Ideal.log (y j) := rfl
/-- The exponential at a place. -/
theorem exp_at {s : Shape} (y : FVec Ideal s .f32) (j : s.Idx) : Host.exp y j = Ideal.exp (y j) := rfl
/-- The negation at a place. -/
theorem neg_at {s : Shape} (y : FVec Ideal s .f32) (j : s.Idx) : Host.negf y j = -(y j : EReal) := rfl
/-- The product at a place. -/
theorem mul_at {s : Shape} (x y : FVec Ideal s .f32) (j : s.Idx) : mulf x y j = (x j : EReal) * (y j : EReal) := rfl
/-- The difference at a place. -/
theorem sub_at {s : Shape} (x y : FVec Ideal s .f32) (j : s.Idx) : subf x y j = (x j : EReal) - (y j : EReal) := rfl

section Row

variable {X : Logits} (hX : AllReal X) (r : Fin 32)
include hX

/-- A logit is a real number. -/
theorem x_fin (k : Fin 1000000) : X (ValueIdx.ix2 r k) = (xr X r k.val : EReal) := by
  rw [← xr_eq hX]
  exact congrArg X (congrArg (ValueIdx.ix2 r) (Fin.ext (Nat.mod_eq_of_lt k.isLt).symm))

/-- The maximum of a row is a real number, and the logits less it are real numbers. -/
theorem shift_real : ∃ M : ℝ, ∀ k : Fin 1000000, RI.shiftR (F := Ideal) X (ValueIdx.ix2 r k) = ((xr X r k.val - M : ℝ) : EReal) := by
  obtain ⟨M, hM⟩ := reduce_max X r (fun k => xr X r k.val) fun k => (congrArg X (lift_col red r k)).trans (x_fin hX r k)
  refine ⟨M, fun k => ?_⟩
  rw [RI.shiftR, sub_at, rows_apply, col_apply, max_bot_apply, EReal.coe_sub]
  exact congrArg₂ (fun a b : EReal => a - b) (x_fin hX r k) hM

/-- The logarithm of the softmax is the logit less the logarithm of the row's sum of exponentials. -/
theorem logp_apply (k : Fin 1000000) : RI.logpR (F := Ideal) X (ValueIdx.ix2 r k) = ((xr X r k.val - Real.log (S X r) : ℝ) : EReal) := by
  obtain ⟨M, hs⟩ := shift_real hX r
  have hsum : RI.rowSum (F := Ideal) (Host.exp (RI.shiftR X)) (ValueIdx.ix1 r) = ((Real.exp (-M) * S X r : ℝ) : EReal) := by
    rw [rowSum_apply (Host.exp (RI.shiftR (F := Ideal) X)) r (fun c => Real.exp (xr X r c - M)) fun k => ?_]
    · rw [S, mul_sum]
      refine congrArg (fun z : ℝ => (z : EReal)) (sum_congr rfl fun c _ => ?_)
      rw [← Real.exp_add]
      congr 1
      ring
    · rw [exp_at, hs, Ideal.exp_coe]
  have hl : RI.rows (Host.log (F := Ideal) (RI.col (RI.rowSum (F := Ideal) (Host.exp (RI.shiftR X))))) (ValueIdx.ix2 r k) =
      ((Real.log (S X r) - M : ℝ) : EReal) := by
    have hp := S_pos X r
    rw [rows_apply, log_at, col_apply, hsum, Ideal.log_coe, if_neg (not_le.mpr (mul_pos (Real.exp_pos _) hp)), Real.log_mul (Real.exp_pos _).ne' hp.ne', Real.log_exp]
    refine congrArg (fun z : ℝ => (z : EReal)) ?_
    ring
  rw [RI.logpR, sub_at, hs k, hl, ← EReal.coe_sub]
  refine congrArg (fun z : ℝ => (z : EReal)) ?_
  ring

/-- The entropy of row `r`. -/
theorem ent_apply : RI.entR (F := Ideal) X (ValueIdx.ix1 r) = ((Real.log (S X r) - T X r / S X r : ℝ) : EReal) := by
  have hp := S_pos X r
  rw [RI.entR, neg_at, rowSum_apply _ r (fun c => Real.exp (xr X r c - Real.log (S X r)) * (xr X r c - Real.log (S X r))) fun k => ?_]
  · rw [← EReal.coe_neg]
    refine congrArg (fun z : ℝ => (z : EReal)) ?_
    have e : ∀ c ∈ range 1000000, Real.exp (xr X r c - Real.log (S X r)) * (xr X r c - Real.log (S X r)) =
        xr X r c * Real.exp (xr X r c) * (S X r)⁻¹ - Real.exp (xr X r c) * ((S X r)⁻¹ * Real.log (S X r)) := by
      intro c _
      rw [Real.exp_sub, Real.exp_log hp]
      ring
    rw [sum_congr rfl e, sum_sub_distrib, ← sum_mul, ← sum_mul]
    have hT : ∑ c ∈ range 1000000, xr X r c * Real.exp (xr X r c) = T X r := rfl
    have hS : ∑ c ∈ range 1000000, Real.exp (xr X r c) = S X r := rfl
    rw [hT, hS, ← mul_assoc, mul_inv_cancel₀ hp.ne', one_mul, div_eq_mul_inv]
    ring
  · rw [mul_at, exp_at, logp_apply hX, Ideal.exp_coe, EReal.coe_mul]

/-- The reference's score at a column. -/
theorem score_ref (k : Fin 1000000) : RI.scoreR (F := Ideal) RI.noiseR X (ValueIdx.ix2 r k) = (vr X r k.val : EReal) := by
  change Ideal.div (X (ValueIdx.ix2 r k)) (Ideal.ofBits .f32 0x3F800000#32) +
    (RI.gumR (F := Ideal) (RI.one11 0x00000000#32) (RI.one11 0x3F800000#32) RI.wordR (ValueIdx.ix2 r k) : EReal) = _
  rw [gumR_apply, wordR_apply, Ideal.ofBits_one_f32, x_fin hX, ← EReal.coe_one, Ideal.div_coe one_ne_zero, ← EReal.coe_mul]
  change _ + gumS (tfS (wd r k.val)) = _
  rw [gr_eq, ← EReal.coe_add, vr]
  refine congrArg (fun z : ℝ => (z : EReal)) ?_
  ring

end Row

end Cert.Proof
-- ==== Proof.RefAct.lean ====
module

public import proofs.«01_k».proof.Proof.RefMath

@[expose] public section

set_option maxRecDepth 8192

noncomputable section

namespace Cert.Proof

open Idealize.ShloMosaic Idealize.ShloMosaic.TcCoe
open Cert.ReferenceIdeal Cert.ReferenceIdeal.Facts₀ Cert.ReferenceIdeal.Facts
open Finset

attribute [local instance] Cert.ReferenceIdeal.Gen.facts

/-- A column's score beside the word that names the column. -/
def scored (f : ℕ → ℝ) (k : ℕ) : Ideal .f32 × BitVec 32 := ((f k : EReal), BitVec.ofNat 32 k)

/-- Of two scored columns the reducer keeps the first one when its score is greater, or equal with a smaller column. -/
theorem reducer_scored (f : ℕ → ℝ) {a k : ℕ} (ha : a < 1000000) (hk : k < 1000000) :
    reducer_argmax_f32_i32 (F := Ideal) (scored f a) (scored f k) =
      if f k < f a ∨ (f a = f k ∧ a < k) then scored f a else scored f k := by
  have hw : IntOp.cmpi .slt (BitVec.ofNat 32 a) (BitVec.ofNat 32 k) = BitVec.ofBool (decide (a < k)) :=
    WordCmp.cmpi_slt_ofNat (by omega) (by omega)
  unfold reducer_argmax_f32_i32 scored
  simp only [Ideal.cmpf_def, Ideal.cmp, hw, EReal.coe_lt_coe_iff, EReal.coe_eq_coe_iff, Scalar.select]
  rcases lt_trichotomy (f a) (f k) with h | h | h
  · simp [h, h.not_gt, h.ne, IntOp.ori, IntOp.andi]
  · by_cases hl : a < k <;> simp [h, hl, IntOp.ori, IntOp.andi]
  · simp [h, h.not_gt, h.ne', IntOp.ori, IntOp.andi]

/-- Against the initial pair the reducer keeps any scored column. -/
theorem reducer_init (f : ℕ → ℝ) (k : ℕ) : reducer_argmax_f32_i32 (F := Ideal) ((⊥ : EReal), 0#32) (scored f k) = scored f k := by
  unfold reducer_argmax_f32_i32 scored
  simp [Ideal.cmpf_def, Ideal.cmp, Scalar.select, IntOp.ori, IntOp.andi]

/-- Column `b` is at least as good as the scored column `p`. -/
def Beats (f : ℕ → ℝ) (b : ℕ) (p : Ideal .f32 × BitVec 32) : Prop :=
  ∃ k < 1000000, p = scored f k ∧ (f k < f b ∨ (f b = f k ∧ b ≤ k))

/-- Folding the reducer over scored columns ends at a scored column that is at least as good as each. -/
theorem fold_scored (f : ℕ → ℝ) (l : List (Ideal .f32 × BitVec 32)) (hl : ∀ p ∈ l, ∃ k < 1000000, p = scored f k)
    {a : ℕ} (ha : a < 1000000) :
    ∃ b < 1000000, l.foldl (reducer_argmax_f32_i32 (F := Ideal)) (scored f a) = scored f b ∧
      (f a < f b ∨ (f b = f a ∧ b ≤ a)) ∧ ∀ p ∈ l, Beats f b p := by
  induction l generalizing a with
  | nil => exact ⟨a, ha, rfl, .inr ⟨rfl, le_rfl⟩, fun p h => nomatch h⟩
  | cons q l ih =>
    obtain ⟨k, hk, rfl⟩ := hl q (List.mem_cons_self ..)
    rw [List.foldl_cons, reducer_scored f ha hk]
    have hl' : ∀ p ∈ l, ∃ k < 1000000, p = scored f k := fun p hp => hl p (List.mem_cons_of_mem _ hp)
    by_cases hb : f k < f a ∨ (f a = f k ∧ a < k)
    · rw [if_pos hb]
      obtain ⟨b, hb1, hb2, hb3, hb4⟩ := ih hl' ha
      refine ⟨b, hb1, hb2, hb3, fun p hp => ?_⟩
      rcases List.mem_cons.mp hp with rfl | hp
      · refine ⟨k, hk, rfl, ?_⟩
        rcases hb with hb | ⟨hb, hb'⟩ <;> rcases hb3 with h | ⟨h, h'⟩
        · exact .inl (hb.trans h)
        · exact .inl (hb.trans_eq h.symm)
        · exact .inl (hb.symm.trans_lt h)
        · exact .inr ⟨h.trans hb, by omega⟩
      · exact hb4 p hp
    · rw [if_neg hb]
      obtain ⟨b, hb1, hb2, hb3, hb4⟩ := ih hl' hk
      refine ⟨b, hb1, hb2, ?_, fun p hp => ?_⟩
      · push Not at hb
        rcases hb.1.lt_or_eq with h0 | h0 <;> rcases hb3 with h | ⟨h, h'⟩
        · exact .inl (h0.trans h)
        · exact .inl (h0.trans_eq h.symm)
        · exact .inl (h0.trans_lt h)
        · exact .inr ⟨h.trans h0.symm, by have := hb.2 h0; omega⟩
      · rcases List.mem_cons.mp hp with rfl | hp
        · exact ⟨k, hk, rfl, hb3⟩
        · exact hb4 p hp

/-- The same fold from the initial pair, when the best column is among the columns. -/
theorem fold_best (f : ℕ → ℝ) (l : List (Ideal .f32 × BitVec 32)) (hl : ∀ p ∈ l, ∃ k < 1000000, p = scored f k)
    {c : ℕ} (hc : c < 1000000) (hm : scored f c ∈ l) (le : ∀ k < 1000000, f k ≤ f c) (first : ∀ k < c, f k < f c) :
    l.foldl (reducer_argmax_f32_i32 (F := Ideal)) ((⊥ : EReal), 0#32) = scored f c := by
  match l, hl, hm with
  | q :: l, hl, hm =>
    obtain ⟨a, ha, rfl⟩ := hl q (List.mem_cons_self ..)
    rw [List.foldl_cons, reducer_init]
    obtain ⟨b, hb1, hb2, hb3, hb4⟩ := fold_scored f l (fun p hp => hl p (List.mem_cons_of_mem _ hp)) ha
    rw [hb2]
    have hbc : f c < f b ∨ (f b = f c ∧ b ≤ c) := by
      rcases List.mem_cons.mp hm with h | h
      · have e : c = a := by
          have h2 := congrArg (fun p : Ideal .f32 × BitVec 32 => p.2.toNat) h
          simp only [scored, BitVec.toNat_ofNat] at h2
          omega
        rw [e]; exact hb3
      · obtain ⟨k, hk, e, h'⟩ := hb4 _ h
        have e : c = k := by
          have h2 := congrArg (fun p : Ideal .f32 × BitVec 32 => p.2.toNat) e
          simp only [scored, BitVec.toNat_ofNat] at h2
          omega
        rw [e]; exact h'
    rcases hbc with h | ⟨h, h'⟩
    · exact absurd (le b hb1) h.not_ge
    · rcases h'.lt_or_eq with h0 | rfl
      · exact absurd h (first b h0).ne
      · rfl

/-- An array and its columns' words, as the argument reduction reads a place. -/
theorem iota_col (i : S32x1000000.Idx) : iotaInDim S32x1000000 32 1 i = BitVec.ofNat 32 (i 1).val := rfl

/-- Dropping the columns of a place leaves its row. -/
theorem drop_row (h : S32x1000000.ReducesTo [1] S32) (i : S32x1000000.Idx) : (h.drop i 0).val = (i 0).val := rfl

/-- The fold of an argument reduction, its operations variables. -/
theorem arg_fold (y : FVec Ideal S32x1000000 .f32) (w : IVec S32x1000000 32) (iy : FVec Ideal S_ .f32) (iw : IVec S_ 32)
    (h : S32x1000000.ReducesTo [1] S32) (hu : 0 < S_.numel) (j : S32.Idx) :
    Host.argReduce (reducer_argmax_f32_i32 (F := Ideal)) y w iy iw h hu j =
      (Host.argReduceFiber y w h j).foldl (reducer_argmax_f32_i32 (F := Ideal)) (iy (Shape.Idx.first hu), iw (Shape.Idx.first hu)) := by
  rw [Ideal.argReduce_eq_reduce2, Host.reduce2_eq_foldl_fiber]

/-- A place is in a fiber exactly when it drops to the fiber's row. -/
theorem mem_fiber (y : FVec Ideal S32x1000000 .f32) (w : IVec S32x1000000 32) (h : S32x1000000.ReducesTo [1] S32) (j : S32.Idx)
    (p : Ideal .f32 × BitVec 32) : p ∈ Host.argReduceFiber y w h j ↔ ∃ i, h.drop i = j ∧ (y i, w i) = p := by
  unfold Host.argReduceFiber
  rw [List.mem_map]
  constructor
  · rintro ⟨n, hn, e⟩
    exact ⟨_, by simpa using (List.mem_filter.mp hn).2, e⟩
  · rintro ⟨i, hi, e⟩
    refine ⟨S32x1000000.rowMajor i, List.mem_filter.mpr ⟨List.mem_finRange _, ?_⟩, ?_⟩
    · rw [Equiv.symm_apply_apply]; exact decide_eq_true hi
    · rw [Equiv.symm_apply_apply]; exact e

/-- A place whose columns are dropped to row `r` is a column of row `r`. -/
theorem place_eq (h : S32x1000000.ReducesTo [1] S32) (i : S32x1000000.Idx) (r : Fin 32) (hi : h.drop i = ValueIdx.ix1 r) :
    i = ValueIdx.ix2 r (i 1) := by
  have h0 : (i 0).val = r.val := (drop_row h i).symm.trans (congrArg (fun z : S32.Idx => (z 0).val) hi)
  funext a
  match a with
  | ⟨0, _⟩ => exact Fin.ext h0
  | ⟨1, _⟩ => rfl

/-- Every column of row `r` drops to row `r`. -/
theorem drop_place (h : S32x1000000.ReducesTo [1] S32) (r : Fin 32) (k : Fin 1000000) : h.drop (ValueIdx.ix2 r k) = ValueIdx.ix1 r := by
  funext a
  match a with
  | ⟨0, _⟩ => exact Fin.ext (drop_row h _)

/-- The argument reduction of row `r` is the row's best column, for any scores and any words that name the columns. -/
theorem arg_best (y : FVec Ideal S32x1000000 .f32) (w : IVec S32x1000000 32) (iy : FVec Ideal S_ .f32) (iw : IVec S_ 32)
    (h : S32x1000000.ReducesTo [1] S32) (hu : 0 < S_.numel) (hy : iy (Shape.Idx.first hu) = (⊥ : EReal)) (hw : iw (Shape.Idx.first hu) = 0#32)
    (r : Fin 32) (f : ℕ → ℝ) (hp : ∀ k : Fin 1000000, (y (ValueIdx.ix2 r k), w (ValueIdx.ix2 r k)) = scored f k.val)
    {c : ℕ} (hc : c < 1000000) (le : ∀ k < 1000000, f k ≤ f c) (first : ∀ k < c, f k < f c) :
    Host.argReduce (reducer_argmax_f32_i32 (F := Ideal)) y w iy iw h hu (ValueIdx.ix1 r) = scored f c := by
  rw [arg_fold, hy, hw]
  refine fold_best f _ ?_ hc ?_ le first
  · intro p hm
    obtain ⟨i, hd, rfl⟩ := (mem_fiber _ _ _ _ _).mp hm
    refine ⟨(i 1).val, (i 1).isLt, ?_⟩
    rw [place_eq _ i r hd]
    exact hp (i 1)
  · exact (mem_fiber _ _ _ _ _).mpr ⟨ValueIdx.ix2 r ⟨c, hc⟩, drop_place _ _ _, hp ⟨c, hc⟩⟩

/-- A constant array at a place. -/
theorem constant_at {s : Shape} (b : BitVec 32) (j : s.Idx) : (constant (F := Ideal) s .f32 b j : EReal) = Ideal.ofBits .f32 b := rfl

/-- The actions are the words of the pairs the argument reduction ends at. -/
theorem act_fun {F : FTy → Type} [FloatOps F] (g x : FVec F S32x1000000 .f32) : RI.actR g x = fun j =>
    (Host.argReduce reducer_argmax_f32_i32 (RI.scoreR g x) (iotaInDim S32x1000000 32 1) (constant S_ .f32 0xFF800000#32)
      (constantI S_ 32 0#32) reducesTo_S32x1000000_S32_d1 h_S_ j).2 := rfl

/-- The second half of a family of pairs at a place. -/
theorem snd_at {ι α β : Type} (A : ι → α × β) (j : ι) (p : α × β) (e : A j = p) : (fun j => (A j).2) j = p.2 := congrArg Prod.snd e

/-- The action of a row is the word of the pair the argument reduction ends at. -/
theorem act_pair {F : FTy → Type} [FloatOps F] (g x : FVec F S32x1000000 .f32) (j : S32.Idx) (p : F .f32 × BitVec 32)
    (e : Host.argReduce reducer_argmax_f32_i32 (RI.scoreR g x) (iotaInDim S32x1000000 32 1) (constant S_ .f32 0xFF800000#32)
      (constantI S_ 32 0#32) reducesTo_S32x1000000_S32_d1 h_S_ j = p) : RI.actR g x j = p.2 :=
  (congrFun (act_fun g x) j).trans (snd_at (Host.argReduce reducer_argmax_f32_i32 (RI.scoreR g x) (iotaInDim S32x1000000 32 1)
    (constant S_ .f32 0xFF800000#32) (constantI S_ 32 0#32) reducesTo_S32x1000000_S32_d1 h_S_) j p e)

/-- The word of a scored column. -/
theorem scored_word (f : ℕ → ℝ) (k : ℕ) : (scored f k).2 = BitVec.ofNat 32 k := rfl

/-- The action of row `r` at any noise, when the row's scores are the numbers `f` and column `c` is the first of the greatest. -/
theorem act_of (g x : FVec Ideal S32x1000000 .f32) (r : Fin 32) (f : ℕ → ℝ)
    (hs : ∀ k : Fin 1000000, RI.scoreR (F := Ideal) g x (ValueIdx.ix2 r k) = (f k.val : EReal))
    {c : ℕ} (hc : c < 1000000) (le : ∀ k < 1000000, f k ≤ f c) (first : ∀ k < c, f k < f c) :
    RI.actR (F := Ideal) g x (ValueIdx.ix1 r) = BitVec.ofNat 32 c := by
  have hp : ∀ k : Fin 1000000, (RI.scoreR (F := Ideal) g x (ValueIdx.ix2 r k), iotaInDim S32x1000000 32 1 (ValueIdx.ix2 r k)) = scored f k.val :=
    fun k => Prod.ext (hs k) (iota_col _)
  have e := arg_best (RI.scoreR (F := Ideal) g x) (iotaInDim S32x1000000 32 1) (constant S_ .f32 0xFF800000#32) (constantI S_ 32 0#32)
    reducesTo_S32x1000000_S32_d1 h_S_ ((constant_at _ _).trans ofBits_bot) rfl r f hp hc le first
  exact (act_pair g x (ValueIdx.ix1 r) (scored f c) e).trans (scored_word f c)

/-- The reference's action of a row is the row's best column. -/
theorem act_ref {X : Logits} (hX : AllReal X) {r : Fin 32} {c : ℕ} (hc : IsBest X r c) :
    RI.actR (F := Ideal) RI.noiseR X (ValueIdx.ix1 r) = BitVec.ofNat 32 c :=
  act_of RI.noiseR X r (vr X r) (score_ref hX r) hc.lt hc.le hc.first

end Cert.Proof
-- ==== Proof.RefPi.lean ====
module

public import proofs.«01_k».proof.Proof.RefMath

@[expose] public section

set_option maxRecDepth 8192

noncomputable section

namespace Cert.Proof

open Idealize.ShloMosaic Idealize.ShloMosaic.TcCoe
open Cert.ReferenceIdeal Cert.ReferenceIdeal.Facts₀ Cert.ReferenceIdeal.Facts
open Finset

attribute [local instance] Cert.ReferenceIdeal.Gen.facts

/-- The batched gather along rows: at row `r` it reads row `r` of the operand, at the column the index names,
    which is read signed and clamped to the row's columns. -/
theorem gather_row (x : FVec Ideal S32x1000000 .f32) (idx : IVec S32x1x1 32) (r : Fin 32) :
    Host.gather gather_S32x1000000_S32x1x1_S32x1_n_1_0_0_1_2_11 x idx (ValueIdx.ix2 r 0) =
      x (ValueIdx.ix2 r ⟨min (idx (ValueIdx.ix3 r 0 0)).toInt.toNat (1000000 - 1), by omega⟩) := by
  unfold Host.gather
  refine congrArg x (funext fun a => Fin.ext ?_)
  have h01 : a = 0 ∨ a = 1 := by
    match a with
    | ⟨0, _⟩ => exact Or.inl rfl
    | ⟨1, _⟩ => exact Or.inr rfl
  rcases h01 with rfl | rfl
  · refine (congrArg₂ (· + ·) (congrArg₂ (· + ·) (GatherDims.start_batching _ _ _ _ (List.mem_singleton.mpr rfl)) rfl)
      (GatherDims.offCoord_eq_zero _ _ _ (fun h => ((GatherDims.mem_sKept _ _).mp h).2 (List.mem_singleton.mpr rfl)))).trans ?_
    simp only [Nat.zero_add, Nat.add_zero]
    unfold GatherDims.batchCoord
    rw [dif_pos (show (0 : Fin 2) ∈ gather_S32x1000000_S32x1x1_S32x1_n_1_0_0_1_2_11.operandBatchingDims from List.mem_singleton.mpr rfl)]
    rfl
  · refine (congrArg₂ (· + ·) (congrArg₂ (· + ·) rfl (GatherDims.batchCoord_eq_zero _ _ _ (fun h => by simp [gather_S32x1000000_S32x1x1_S32x1_n_1_0_0_1_2_11] at h)))
      (GatherDims.offCoord_eq_zero _ _ _ (fun h => ((GatherDims.mem_sKept _ _).mp h).1 (List.mem_singleton.mpr rfl)))).trans ?_
    simp only [Nat.add_zero]
    unfold GatherDims.start
    rw [dif_pos (show (1 : Fin 2) ∈ gather_S32x1000000_S32x1x1_S32x1_n_1_0_0_1_2_11.startIndexMap from List.mem_singleton.mpr rfl)]
    have hsi : ∀ p, gather_S32x1000000_S32x1x1_S32x1_n_1_0_0_1_2_11.siIdx (ValueIdx.ix2 r 0) p = ValueIdx.ix3 r 0 0 := by
      intro p
      funext b; refine Fin.ext ?_
      match b with
      | ⟨0, _⟩ => rfl
      | ⟨1, _⟩ => rfl
      | ⟨2, _⟩ => exact Nat.lt_one_iff.mp (Fin.isLt _)
    rw [hsi]
    rfl

/-- A signed word of a number below the number of columns, read back. -/
theorem word_toNat {c : ℕ} (hc : c < 1000000) : (BitVec.ofNat 32 c).toInt.toNat = c := by
  rw [BitVec.toInt_eq_toNat_of_lt (by rw [BitVec.toNat_ofNat]; omega), BitVec.toNat_ofNat]
  omega

/-- A nonnegative index is not moved. -/
theorem wrap_apply (i : IVec S32x1 32) (r : Fin 32) {c : ℕ} (hc : c < 1000000) (h : i (ValueIdx.ix2 r 0) = BitVec.ofNat 32 c) (j : S32x1x1.Idx)
    (hj : (j 0).val = r.val) : RI.wrapR i j = BitVec.ofNat 32 c := by
  unfold RI.wrapR
  rw [shapeCast_apply _ _ j (ValueIdx.ix2 r 0) (by
    have h1 : (j 1).val < 1 := (j 1).isLt
    have h2 : (j 2).val < 1 := (j 2).isLt
    rw [Shape.rowMajor_val_two, Shape.rowMajor_val_three]
    change r.val * 1 + 0 = ((j 0).val * 1 + (j 1).val) * 1 + (j 2).val
    omega)]
  change Scalar.select (IntOp.cmpi .slt (i (ValueIdx.ix2 r 0)) (BitVec.ofNat 32 0)) _ (i (ValueIdx.ix2 r 0)) = _
  rw [h, WordCmp.cmpi_slt_ofNat (by omega) (by omega)]
  simp [Scalar.select]

/-- Folding `and` over ones from one gives one. -/
theorem fold_ones {α : Type} (l : List α) (f : α → BitVec 1) (h : ∀ a ∈ l, f a = 1#1) :
    l.foldl (fun r a => IntOp.andi r (f a)) 1#1 = 1#1 := by
  induction l with
  | nil => rfl
  | cons a l ih =>
    rw [List.foldl_cons, h a (List.mem_cons_self ..)]
    exact ih fun b hb => h b (List.mem_cons_of_mem _ hb)

/-- Indices that name columns are in bounds. -/
theorem bound_apply (i : IVec S32x1x1 32) (h : ∀ j, ∃ c < 1000000, i j = BitVec.ofNat 32 c) (j : S32x1.Idx) : RI.boundR i j = 1#1 := by
  unfold RI.boundR
  rw [Host.reduce_eq_foldl]
  refine fold_ones _ _ fun a _ => ?_
  obtain ⟨c, hc, e⟩ := h a
  change IntOp.andi (IntOp.cmpi .sge (i a) (BitVec.ofNat 32 0)) (IntOp.cmpi .sle (i a) (BitVec.ofNat 32 999999)) = 1#1
  rw [e, WordCmp.cmpi_sge_ofNat (by omega) (by omega), WordCmp.cmpi_sle_ofNat (by omega) (by omega),
    decide_eq_true (Nat.zero_le c), decide_eq_true (show c ≤ 999999 by omega)]
  rfl

/-- Taking one column of every row, at indices that name columns. -/
theorem take_apply (x : FVec Ideal S32x1000000 .f32) (i : IVec S32x1 32) (cs : Fin 32 → Fin 1000000)
    (h : ∀ r, i (ValueIdx.ix2 r 0) = BitVec.ofNat 32 (cs r).val) (r : Fin 32) :
    RI.takeR x i (ValueIdx.ix2 r 0) = x (ValueIdx.ix2 r (cs r)) := by
  have hw : ∀ j : S32x1x1.Idx, RI.wrapR i j = BitVec.ofNat 32 (cs (j 0)).val := fun j => wrap_apply i (j 0) (cs (j 0)).isLt (h (j 0)) j rfl
  have hb : RI.boundR (RI.wrapR i) (ValueIdx.ix2 r 0) = 1#1 := bound_apply _ (fun j => ⟨_, (cs (j 0)).isLt, hw j⟩) _
  have out : ∀ (b : IVec S32x1 1) (y z : FVec Ideal S32x1 .f32) (j : S32x1.Idx), b j = 1#1 → select b y z j = y j := by
    intro b y z j e
    change Scalar.select (b j) (y j) (z j) = _
    rw [e]; rfl
  unfold RI.takeR
  rw [out _ _ _ _ hb, gather_row]
  refine congrArg x (congrArg (ValueIdx.ix2 r) (Fin.ext ?_))
  have key : ∀ w : BitVec 32, w = BitVec.ofNat 32 (cs r).val → min w.toInt.toNat (1000000 - 1) = (cs r).val := by
    rintro _ rfl
    have := (cs r).isLt
    rw [word_toNat this]
    omega
  exact key _ (hw (ValueIdx.ix3 r 0 0))

/-- A column of 32 values flattened, at a place. -/
theorem flat_apply {α : Type} (y : S32x1.Idx → α) (h : S32x1.ShapeCasts S32) (r : Fin 32) :
    shapeCast S32 y h (ValueIdx.ix1 r) = y (ValueIdx.ix2 r 0) := by
  refine shapeCast_apply _ _ _ _ ?_
  rw [Shape.rowMajor_val_two, Shape.rowMajor_val_one]
  change r.val * 1 + 0 = r.val
  omega

/-- The reference's log-probability of a row's action, when the actions are the columns `cs`. -/
theorem pi_ref {X : Logits} (hX : AllReal X) (cs : Fin 32 → Fin 1000000)
    (h : ∀ r, RI.actR (F := Ideal) RI.noiseR X (ValueIdx.ix1 r) = BitVec.ofNat 32 (cs r).val) (r : Fin 32) :
    RI.piR (F := Ideal) RI.noiseR X (ValueIdx.ix1 r) = ((xr X r (cs r).val - Real.log (S X r) : ℝ) : EReal) := by
  have h' : ∀ r, RI.col (RI.actR (F := Ideal) RI.noiseR X) (ValueIdx.ix2 r 0) = BitVec.ofNat 32 (cs r).val :=
    fun r => (col_apply _ r).trans (h r)
  unfold RI.piR
  generalize RI.col (RI.actR (F := Ideal) RI.noiseR X) = i at h' ⊢
  rw [flat_apply, take_apply _ _ cs h', logp_apply hX]

end Cert.Proof
-- ==== Proof.Algebraic.lean ====
module

public import proofs.«01_k».proof.Defs
public import proofs.«01_k».proof.Proof.Frames
public import proofs.«01_k».proof.Proof.RefRun
public import proofs.«01_k».proof.Proof.KRun
public import proofs.«01_k».proof.Proof.RefAct
public import proofs.«01_k».proof.Proof.RefPi

@[expose] public section

noncomputable section

namespace Cert.Proof

open Idealize.ShloMosaic Idealize.ShloMosaic.TcCoe

attribute [local instance] Cert.KernelIdeal.Gen.facts Cert.ReferenceIdeal.Gen.facts

/-- The precondition's broadcast is well formed. -/
theorem pre_facts : Cert.Pre_logits_finite.Facts := ⟨by decide⟩

/-- The precondition at a place: the absolute value of the logit is below infinity. -/
theorem pre_at [Cert.Pre_logits_finite.Facts] (x : FVec Ideal Pre_logits_finite.S32x1000000 .f32) (i : Pre_logits_finite.S32x1000000.Idx) :
    Cert.Pre_logits_finite.fn (F := Ideal) x i = Ideal.cmp .olt (max (x i : EReal) (-(x i : EReal))) (Ideal.ofBits .f32 0x7F800000#32) := rfl

/-- The word of plus infinity. -/
theorem ofBits_top : Ideal.ofBits .f32 0x7F800000#32 = ⊤ := by
  simp [Ideal.ofBits, Ideal.ieee]

/-- Logits that meet the precondition are real numbers. -/
theorem allReal [Cert.Pre_logits_finite.Facts] (X : Logits) (h : Cert.Pre_logits_finite.fn (F := Ideal) X = fun _ => 1#1) : AllReal X := by
  intro i
  have h1 : Ideal.cmp .olt (max (X i) (-(X i))) ⊤ = 1#1 := by
    rw [← ofBits_top]
    exact (pre_at X i).symm.trans (congrFun h i)
  have h2 : max (X i) (-(X i)) < ⊤ := by
    by_contra hn
    rw [Ideal.cmp, decide_eq_false hn] at h1
    exact absurd h1 (by decide)
  generalize X i = z at h2
  induction z using EReal.rec with
  | bot => simp at h2
  | coe v => exact ⟨v, rfl⟩
  | top => simp at h2

/-- Every index of 32 values is a row. -/
theorem row_index (j : ReferenceIdeal.S32.Idx) : ∃ r : Fin 32, j = ValueIdx.ix1 r := by
  refine ⟨j 0, funext fun a => ?_⟩
  match a with
  | ⟨0, _⟩ => rfl

/-- The two programs' actions are equal. -/
theorem act_same {X : Logits} (hX : AllReal X) :
    RI.actR (F := Ideal) RI.noiseR X = shapeCast KernelIdeal.S32 (KI.outAct (KI.accEnd (F := Ideal) X)) KernelIdeal.Facts₀.shapeCasts_S32x1_S32 := by
  funext j
  obtain ⟨r, rfl⟩ := row_index j
  obtain ⟨c, hc⟩ := exists_best X r
  exact (act_ref hX hc).trans ((flat_apply _ _ r).trans (act_final hX hc)).symm

/-- The two programs' log-probabilities are equal. -/
theorem pi_same {X : Logits} (hX : AllReal X) :
    RI.piR (F := Ideal) RI.noiseR X = shapeCast KernelIdeal.S32 (KI.outPi (KI.accEnd (F := Ideal) X)) KernelIdeal.Facts₀.shapeCasts_S32x1_S32 := by
  funext j
  obtain ⟨r, rfl⟩ := row_index j
  choose cs hcs using fun r => exists_best X r
  exact (pi_ref hX (fun r => ⟨cs r, (hcs r).lt⟩) (fun r => act_ref hX (hcs r)) r).trans ((flat_apply _ _ r).trans (pi_final hX (hcs r))).symm

/-- The two programs' entropies are equal. -/
theorem ent_same {X : Logits} (hX : AllReal X) :
    RI.entR (F := Ideal) X = shapeCast KernelIdeal.S32 (KI.outEnt (KI.accEnd (F := Ideal) X)) KernelIdeal.Facts₀.shapeCasts_S32x1_S32 := by
  funext j
  obtain ⟨r, rfl⟩ := row_index j
  exact (ent_apply hX r).trans ((flat_apply _ _ r).trans (ent_final hX)).symm

/-- From equal finite logits the kernel and the reference end with equal results. -/
theorem algebraic : Cert.algebraic_KernelIdeal_ReferenceIdeal_pre_logits_finite (hPre_logits_finite := pre_facts) := by
  letI := pre_facts
  intro m g m' g' hpre hm
  have hX : ∀ c, AllReal (KI.logits (F := Ideal) m c) := fun c => allReal _ (hpre c)
  have hx : ∀ c, RI.arg m' c = KI.logits (F := Ideal) m c := fun c => hm c
  refine ⟨_, _, _, KI.run_K m g, (θ_run _ _ _).mono (fun r h c => ?_) (RI.run_R m' g')⟩
  obtain ⟨h0, h1, h2, h3⟩ := h c
  rw [hx c] at h0 h1 h2
  exact ⟨h0.trans (act_same (hX c)), h1.trans (pi_same (hX c)), h2.trans (ent_same (hX c)), h3⟩

/-- The kernel runs and leaves its argument alone, of finite logits too. -/
theorem frame_PI_finite : Cert.quiescent_KernelIdeal_pre_logits_finite (hPre_logits_finite := pre_facts) := fun m g _ => frameAny m g

/-- The reference runs and leaves its argument alone, of finite logits too. -/
theorem frame_R_finite : Cert.quiescent_ReferenceIdeal_pre_logits_finite (hPre_logits_finite := pre_facts) := fun m g _ => frame_R m g trivial

end Cert.Proof
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.RefRun
public import proofs.«01_k».proof.Proof.Algebraic

@[expose] public section

noncomputable section

namespace Cert.Proof

/-- The claims of this certificate. -/
theorem claim : Cert.Claim := ⟨Cert.Kernel.Gen.facts, Cert.KernelIdeal.Gen.facts, Cert.ReferenceIdeal.Gen.facts, pre_facts,
  frame_P, frame_PI, frame_PI_finite, frame_R, frame_R_finite, trivial, algebraic⟩

end Cert.Proof

end
